-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_distinct [hKernelIdeal : Cert.KernelIdeal.Facts] [hReferenceIdeal : Cert.ReferenceIdeal.Facts] [hOn_distinct : Cert.On_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![256, 8192]⟩ 1 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8]⟩ : Shape).Idx, (Cert.On_distinct.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![256, 8]⟩ : Shape).Idx, (Cert.On_distinct.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_distinct : Cert.On_distinct.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_distinct (hKernelIdeal := hKernelIdeal) (hReferenceIdeal := hReferenceIdeal) (hOn_distinct := hOn_distinct)
-- ==== On_distinct.lean ====
abbrev S256x8192 : Shape := ⟨2, ![256, 8192]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩
abbrev S256x8x7 : Shape := ⟨3, ![256, 8, 7]⟩
abbrev S256x7 : Shape := ⟨2, ![256, 7]⟩
abbrev S256x1x7 : Shape := ⟨3, ![256, 1, 7]⟩

class Facts : Prop where
  slices_S256x8192_S256x8_0_0 : S256x8192.Slices ![0, 0] S256x8
  bcast_S_S256x8 : S_.BroadcastsInDim S256x8 (![] : Fin 0 → Fin S256x8.rank)
  shapeCasts_S256x8_S256x8x1 : S256x8.ShapeCasts S256x8x1
  bcast_S_S256x8x1 : S_.BroadcastsInDim S256x8x1 (![] : Fin 0 → Fin S256x8x1.rank)
  bcast_S1_S1x1x1_2 : S1.BroadcastsInDim S1x1x1 (![2] : Fin 1 → Fin S1x1x1.rank)
  bcast_S1x1x1_S256x8x1_0_1_2 : S1x1x1.BroadcastsInDim S256x8x1 (![0, 1, 2] : Fin 3 → Fin S256x8x1.rank)
  reducesTo_S256x8x1_S256x8_d2 : S256x8x1.ReducesTo [2] S256x8
  h_S_ : 0 < S_.numel
  slices_S256x8_S256x7_0_1 : S256x8.Slices ![0, 1] S256x7
  slices_S256x8_S256x7_0_0 : S256x8.Slices ![0, 0] S256x7
  bcast_S256x7_S256x1x7_0_2 : S256x7.BroadcastsInDim S256x1x7 (![0, 2] : Fin 2 → Fin S256x1x7.rank)
  bcast_S256x1x7_S256x8x7_0_1_2 : S256x1x7.BroadcastsInDim S256x8x7 (![0, 1, 2] : Fin 3 → Fin S256x8x7.rank)
  reducesTo_S256x8x7_S256x8_d2 : S256x8x7.ReducesTo [2] S256x8
  gather_S256x8192_S256x8x1_S256x8_n_1_0_0_1_2_11_wf : GatherDims.WF S256x8192 S256x8x1 S256x8 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S256x8192_S256x8x1_S256x8_n_1_0_0_1_2_11 : GatherDims S256x8192 S256x8x1 S256x8 where
  offsetDims := []
  collapsedSliceDims := [1]
  operandBatchingDims := [0]
  startIndicesBatchingDims := [0]
  startIndexMap := [1]
  indexVectorDim := 2
  sliceSizes := ![1, 1]
  wf := gather_S256x8192_S256x8x1_S256x8_n_1_0_0_1_2_11_wf

def fn_argsort {F : FTy → Type} [FloatOps F] (arg0 : FVec F S256x8192 .f32) : IVec S256x8192 32 :=
  let v0 : IVec S256x8192 32 := iotaInDim S256x8192 32 1
  let v1_0 : FVec F S256x8192 .f32 := (fun x y => (Host.sort2 S256x8192 1 comparator_f32_i32_d1 x y).1) arg0 v0
  let v1_1 : IVec S256x8192 32 := (fun x y => (Host.sort2 S256x8192 1 comparator_f32_i32_d1 x y).2) arg0 v0
  v1_1

def fn_take_along_axis {F : FTy → Type} [FloatOps F] (arg0 : FVec F S256x8192 .f32) (arg1 : IVec S256x8 32) : FVec F S256x8 .f32 :=
  let c : IVec S_ 32 := constantI S_ 32 0#32
  let v0 : IVec S256x8 32 := broadcastInDim S256x8 ![] bcast_S_S256x8 c
  let v1 : IVec S256x8 1 := cmpi .slt arg1 v0
  let c_0 : IVec S_ 32 := constantI S_ 32 8192#32
  let v2 : IVec S256x8 32 := broadcastInDim S256x8 ![] bcast_S_S256x8 c_0
  let v3 : IVec S256x8 32 := addi arg1 v2
  let v4 : IVec S256x8 32 := select v1 v3 arg1
  let v5 : IVec S256x8x1 32 := shapeCast S256x8x1 v4 shapeCasts_S256x8_S256x8x1
  let c_1 : IVec S1 32 := constantI S1 32 8191#32
  let c_2 : IVec S_ 32 := constantI S_ 32 0#32
  let v6 : IVec S256x8x1 32 := broadcastInDim S256x8x1 ![] bcast_S_S256x8x1 c_2
  let v7 : IVec S256x8x1 1 := cmpi .sge v5 v6
  let v8 : IVec S1x1x1 32 := broadcastInDim S1x1x1 ![2] bcast_S1_S1x1x1_2 c_1
  let v9 : IVec S256x8x1 32 := broadcastInDim S256x8x1 ![0, 1, 2] bcast_S1x1x1_S256x8x1_0_1_2 v8
  let v10 : IVec S256x8x1 1 := cmpi .sle v5 v9
  let v11 : IVec S256x8x1 1 := andi v7 v10
  let c_3 : IVec S_ 1 := constantI S_ 1 1#1
  let v12 : IVec S256x8 1 := (fun x v => Host.reduce IntOp.andi x v reducesTo_S256x8x1_S256x8_d2 h_S_) v11 c_3
  let v13 : FVec F S256x8 .f32 := (fun x i => Host.gather gather_S256x8192_S256x8x1_S256x8_n_1_0_0_1_2_11 x i) arg0 v5
  let cst : FVec F S_ .f32 := constant S_ .f32 0x7FC00000#32
  let v14 : FVec F S256x8 .f32 := broadcastInDim S256x8 ![] bcast_S_S256x8 cst
  let v15 : FVec F S256x8 .f32 := select v12 v13 v14
  v15

def fn {F : FTy → Type} [FloatOps F] (main_arg0 : FVec F S256x8192 .f32) : IVec S256x8 1 :=
  let main_v0 : FVec F S256x8192 .f32 := Host.negf main_arg0
  let main_v1 : IVec S256x8192 32 := fn_argsort (F := F) main_v0
  let main_v2 : IVec S256x8 32 := (extractStridedSlice S256x8 ![0, 0] · slices_S256x8192_S256x8_0_0) main_v1
  let main_v3 : FVec F S256x8 .f32 := fn_take_along_axis (F := F) main_arg0 main_v2
  let main_v4 : IVec S256x8x7 32 := iotaInDim S256x8x7 32 2
  let main_v5 : IVec S256x8x7 32 := iotaInDim S256x8x7 32 1
  let main_v6 : FVec F S256x7 .f32 := (extractStridedSlice S256x7 ![0, 1] · slices_S256x8_S256x7_0_1) main_v3
  let main_v7 : FVec F S256x7 .f32 := (extractStridedSlice S256x7 ![0, 0] · slices_S256x8_S256x7_0_0) main_v3
  let main_v8 : IVec S256x7 1 := cmpf .olt main_v6 main_v7
  let main_v9 : IVec S256x1x7 1 := broadcastInDim S256x1x7 ![0, 2] bcast_S256x7_S256x1x7_0_2 main_v8
  let main_v10 : IVec S256x8x7 1 := cmpi .sge main_v4 main_v5
  let main_v11 : IVec S256x8x7 1 := broadcastInDim S256x8x7 ![0, 1, 2] bcast_S256x1x7_S256x8x7_0_1_2 main_v9
  let main_v12 : IVec S256x8x7 1 := ori main_v11 main_v10
  let main_c : IVec S_ 1 := constantI S_ 1 1#1
  let main_v13 : IVec S256x8 1 := (fun x v => Host.reduce IntOp.andi x v reducesTo_S256x8x7_S256x8_d2 h_S_) main_v12 main_c
  let main_cst : FVec F S_ .f32 := constant S_ .f32 0xFF800000#32
  let main_v14 : FVec F S256x8 .f32 := broadcastInDim S256x8 ![] bcast_S_S256x8 main_cst
  let main_v15 : IVec S256x8 1 := cmpf .oeq main_v3 main_v14
  let main_v16 : IVec S256x8 1 := ori main_v13 main_v15
  main_v16
-- ==== Kernel.lean ====
abbrev S256x1024 : Shape := ⟨2, ![256, 1024]⟩
abbrev S256x8 : Shape := ⟨2, ![256, 8]⟩
abbrev S8x256x8 : Shape := ⟨3, ![8, 256, 8]⟩
abbrev S7 : Shape := ⟨1, ![7]⟩
abbrev S_ : Shape := ⟨0, ![]⟩
abbrev S256x128 : Shape := ⟨2, ![256, 128]⟩
abbrev S256 : Shape := ⟨1, ![256]⟩
abbrev S256x1 : Shape := ⟨2, ![256, 1]⟩
abbrev S1x256x8 : Shape := ⟨3, ![1, 256, 8]⟩
abbrev S1 : Shape := ⟨1, ![1]⟩
abbrev S256x64 : Shape := ⟨2, ![256, 64]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x8, .f32⟩
  | .local _ .vmem, ⟨0, _⟩ => ⟨S256x1024, .f32⟩
  | .local _ .vmem, ⟨1, _⟩ => ⟨S256x8, .f32⟩
  | .local _ .vmem, ⟨2, _⟩ => ⟨S8x256x8, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v11 : BitVec 32 := Scalar.muli v3 c1_i32_2
  let v12 : BitVec 32 := Scalar.addi c0_i32 v11
  v12.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_4 : BitVec 32 := 1#32
  let v13 : BitVec 32 := Scalar.muli v4 c1_i32_4
  let v14 : BitVec 32 := Scalar.addi c0_i32_5 v13
  v14.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v5 : BitVec 32 := Scalar.xori v2 c3_i32
  let c1_i32_7 : BitVec 32 := 1#32
  let v15 : BitVec 32 := Scalar.muli v5 c1_i32_7
  let v16 : BitVec 32 := Scalar.addi c0_i32_8 v15
  v16.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_10 : BitVec 32 := 1#32
  let v17 : BitVec 32 := Scalar.muli v6 c1_i32_10
  let v18 : BitVec 32 := Scalar.addi c0_i32_11 v17
  v18.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v7 : BitVec 32 := Scalar.xori v2 c5_i32
  let c1_i32_13 : BitVec 32 := 1#32
  let v19 : BitVec 32 := Scalar.muli v7 c1_i32_13
  let v20 : BitVec 32 := Scalar.addi c0_i32_14 v19
  v20.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v8 : BitVec 32 := Scalar.xori v2 c6_i32
  let c1_i32_16 : BitVec 32 := 1#32
  let v21 : BitVec 32 := Scalar.muli v8 c1_i32_16
  let v22 : BitVec 32 := Scalar.addi c0_i32_17 v21
  v22.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v9 : BitVec 32 := Scalar.xori v2 c7_i32
  let c1_i32_19 : BitVec 32 := 1#32
  let v23 : BitVec 32 := Scalar.muli v9 c1_i32_19
  let v24 : BitVec 32 := Scalar.addi c0_i32_20 v23
  v24.toNat
def k0_dev8 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_44 : BitVec 32 := 1#32
  let v141 : BitVec 32 := Scalar.muli v3 c1_i32_44
  let v142 : BitVec 32 := Scalar.addi c0_i32_45 v141
  v142.toNat
def k0_dev9 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_54 : BitVec 32 := 1#32
  let v151 : BitVec 32 := Scalar.muli v4 c1_i32_54
  let v152 : BitVec 32 := Scalar.addi c0_i32_55 v151
  v152.toNat
def k0_dev10 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v5 : BitVec 32 := Scalar.xori v2 c3_i32
  let c1_i32_64 : BitVec 32 := 1#32
  let v161 : BitVec 32 := Scalar.muli v5 c1_i32_64
  let v162 : BitVec 32 := Scalar.addi c0_i32_65 v161
  v162.toNat
def k0_dev11 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_74 : BitVec 32 := 1#32
  let v171 : BitVec 32 := Scalar.muli v6 c1_i32_74
  let v172 : BitVec 32 := Scalar.addi c0_i32_75 v171
  v172.toNat
def k0_dev12 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v7 : BitVec 32 := Scalar.xori v2 c5_i32
  let c1_i32_84 : BitVec 32 := 1#32
  let v181 : BitVec 32 := Scalar.muli v7 c1_i32_84
  let v182 : BitVec 32 := Scalar.addi c0_i32_85 v181
  v182.toNat
def k0_dev13 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v8 : BitVec 32 := Scalar.xori v2 c6_i32
  let c1_i32_94 : BitVec 32 := 1#32
  let v191 : BitVec 32 := Scalar.muli v8 c1_i32_94
  let v192 : BitVec 32 := Scalar.addi c0_i32_95 v191
  v192.toNat
def k0_dev14 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v9 : BitVec 32 := Scalar.xori v2 c7_i32
  let c1_i32_104 : BitVec 32 := 1#32
  let v201 : BitVec 32 := Scalar.muli v9 c1_i32_104
  let v202 : BitVec 32 := Scalar.addi c0_i32_105 v201
  v202.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x8192 : Shape := ⟨2, ![256, 8192]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S256x8192, .f32⟩
  | .hbm, ⟨2, _⟩ => ⟨S256x8192, .i32⟩
  | .hbm, ⟨3, _⟩ => ⟨S256x8192, .f32⟩
  | .hbm, ⟨4, _⟩ => ⟨S256x8192, .i32⟩
  | .hbm, ⟨5, _⟩ => ⟨S256x8, .i32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S1, .i32⟩
  | .hbm, ⟨15, _⟩ => ⟨S_, .i32⟩
  | .hbm, ⟨16, _⟩ => ⟨S256x8x1, .i32⟩
  | .hbm, ⟨17, _⟩ => ⟨S256x8x1, .i1⟩
  | .hbm, ⟨18, _⟩ => ⟨S1x1x1, .i32⟩
  | .hbm, ⟨19, _⟩ => ⟨S256x8x1, .i32⟩
  | .hbm, ⟨20, _⟩ => ⟨S256x8x1, .i1⟩
  | .hbm, ⟨21, _⟩ => ⟨S256x8x1, .i1⟩
  | .hbm, ⟨22, _⟩ => ⟨S_, .i1⟩
  | .hbm, ⟨23, _⟩ => ⟨S256x8, .i1⟩
  | .hbm, ⟨24, _⟩ => ⟨S256x8, .f32⟩
  | .hbm, ⟨25, _⟩ => ⟨S_, .f32⟩
  | .hbm, ⟨26, _⟩ => ⟨S256x8, .f32⟩
  | .hbm, ⟨27, _⟩ => ⟨S256x8, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Slots.lean ====
/-
# The buffers, semaphores and contents of the exchange

Every device keeps a buffer of eight slots. Slot 0 receives the device's own eight largest candidates per row;
slot `k` receives those of the device whose number is the own number xor `k`. This module names the slots, the
semaphores, the partner devices and the contents the slots end with.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdxCore
public import Idealize.ShloMosaic.Lib.Tactic

@[expose] public section

noncomputable section

namespace Cert.TopK

open Cert.KernelIdeal Cert.KernelIdeal.Gen

open Idealize.ShloMosaic
open Idealize.ShloMosaic.TcCoe
open Idealize.ShloMosaic.ValueIdx

variable {F : FTy → Type} [FloatOps F]

variable (m : (ℓ : Loc nD τ sig) → Buf (Elt F) ℓ) (ρ : Dev nD → PrngReg)

/-- The memory at launch: contents `m`, every counter zero. -/
def s₀ : MemSt nD τ sig (Elt F) := ⟨m, fun _ => 0, ρ⟩

/-! ## Partner devices -/

set_option backward.proofsInPublic true in
/-- The device whose number is `c`'s xor `k`. -/
def xr (c : Dev nD) (k : Fin 8) : Dev nD :=
  ⟨c.val ^^^ k.val, (by decide : ∀ (a : Fin 8) (b : Fin 8), a.val ^^^ b.val < 8) c k⟩

theorem xr_zero (c : Dev nD) : xr c 0 = c := by revert c; decide
theorem xr_xr (c : Dev nD) (k : Fin 8) : xr (xr c k) k = c := by revert c k; decide
theorem xr_surj (c d : Dev nD) : ∃ k, xr c k = d := by revert c d; decide

/-- The partner number `k + 1`. -/
abbrev peer (k : Fin 7) (c : Dev nD) : Dev nD := xr c k.succ
theorem peer_peer (k : Fin 7) (c : Dev nD) : peer k (peer k c) = c := xr_xr c k.succ
/-- Partnership as a permutation of the devices. -/
def peerEquiv (k : Fin 7) : Dev nD ≃ Dev nD := ⟨peer k, peer k, peer_peer k, peer_peer k⟩

/-- The devices the seven signals name. -/
theorem sig1 (c : Dev nD) : (⟨k0_dev1 c, k0_dev1_lt c⟩ : Dev nD) = peer 0 c := by revert c; decide
theorem sig2 (c : Dev nD) : (⟨k0_dev2 c, k0_dev2_lt c⟩ : Dev nD) = peer 1 c := by revert c; decide
theorem sig3 (c : Dev nD) : (⟨k0_dev3 c, k0_dev3_lt c⟩ : Dev nD) = peer 2 c := by revert c; decide
theorem sig4 (c : Dev nD) : (⟨k0_dev4 c, k0_dev4_lt c⟩ : Dev nD) = peer 3 c := by revert c; decide
theorem sig5 (c : Dev nD) : (⟨k0_dev5 c, k0_dev5_lt c⟩ : Dev nD) = peer 4 c := by revert c; decide
theorem sig6 (c : Dev nD) : (⟨k0_dev6 c, k0_dev6_lt c⟩ : Dev nD) = peer 5 c := by revert c; decide
theorem sig7 (c : Dev nD) : (⟨k0_dev7 c, k0_dev7_lt c⟩ : Dev nD) = peer 6 c := by revert c; decide
/-- The devices the seven copies name. -/
theorem cpy1 (c : Dev nD) : (⟨k0_dev8 c, k0_dev8_lt c⟩ : Dev nD) = peer 0 c := by revert c; decide
theorem cpy2 (c : Dev nD) : (⟨k0_dev9 c, k0_dev9_lt c⟩ : Dev nD) = peer 1 c := by revert c; decide
theorem cpy3 (c : Dev nD) : (⟨k0_dev10 c, k0_dev10_lt c⟩ : Dev nD) = peer 2 c := by revert c; decide
theorem cpy4 (c : Dev nD) : (⟨k0_dev11 c, k0_dev11_lt c⟩ : Dev nD) = peer 3 c := by revert c; decide
theorem cpy5 (c : Dev nD) : (⟨k0_dev12 c, k0_dev12_lt c⟩ : Dev nD) = peer 4 c := by revert c; decide
theorem cpy6 (c : Dev nD) : (⟨k0_dev13 c, k0_dev13_lt c⟩ : Dev nD) = peer 5 c := by revert c; decide
theorem cpy7 (c : Dev nD) : (⟨k0_dev14 c, k0_dev14_lt c⟩ : Dev nD) = peer 6 c := by revert c; decide

/-! ## Buffers -/

/-- The device's block of `x`, the result and the buffer of eight slots. -/
abbrev xM : Memref sig .tc .vmem S256x1024 .f32 := Memref.whole cc0_stg0_0
abbrev oM : Memref sig .tc .vmem S256x8 .f32 := Memref.whole cc0_stg1_0
abbrev qM : Memref sig .tc .vmem S8x256x8 .f32 := Memref.whole cc0_scratch0

theorem inb_slot (k : Fin 8) : ∀ a, (![k.val, 0, 0] : Fin 3 → Nat) a + S1x256x8.size a ≤ S8x256x8.size a := by
  intro a
  have hk := k.isLt
  fin_cases a
  · show k.val + 1 ≤ 8; omega
  · exact Nat.le_refl _
  · exact Nat.le_refl _

/-- Slot `k` as a rectangle of the buffer, and as the memref the copies name. -/
abbrev slotR (k : Fin 8) : Rect S8x256x8 := Rect.unit (s := S8x256x8) ![k.val, 0, 0] S1x256x8.size (inb_slot k)
abbrev slotM (k : Fin 8) : Memref sig .tc .vmem S256x8 .f32 :=
  (qM.slice (slotR k) (fun _ => rfl)).squeeze S256x8 squeezes_S1x256x8_S256x8

/-- The elements of slot `k`. -/
abbrev slotSet (k : Fin 8) : Finset (cc0_scratch0 : Ref sig .tc).ty.Idx := (slotM k).view.set

theorem slotSet_eq (k : Fin 8) : slotSet k = (slotR k).set := by
  show ((qM.view.slice (slotR k)).reshape S256x8 _).set = _
  rw [View.set_reshape]
  exact View.set_slice_whole _ _

theorem mem_slotSet (k : Fin 8) (i : S8x256x8.Idx) : i ∈ slotSet k ↔ (i 0).val = k.val := by
  rw [slotSet_eq, Rect.mem_set_unit]
  constructor
  · intro h
    have h0 : k.val ≤ (i 0).val ∧ (i 0).val < k.val + 1 := h 0
    omega
  · intro h a
    have h1 : (i 1).val < 256 := (i 1).isLt
    have h2 : (i 2).val < 8 := (i 2).isLt
    fin_cases a
    · show k.val ≤ (i 0).val ∧ (i 0).val < k.val + 1; omega
    · show 0 ≤ (i 1).val ∧ (i 1).val < 0 + 256; omega
    · show 0 ≤ (i 2).val ∧ (i 2).val < 0 + 8; omega

theorem slot_disjoint (k k' : Fin 8) (h : k ≠ k') : Disjoint (slotSet k) (slotSet k') :=
  Finset.disjoint_left.mpr fun i hi hi' =>
    h (Fin.ext (((mem_slotSet k i).mp hi).symm.trans ((mem_slotSet k' i).mp hi')))

theorem slot_cover : (Finset.univ : Finset (Fin 8)).biUnion slotSet = Finset.univ := by
  ext i
  simp only [Finset.mem_biUnion, Finset.mem_univ, true_and, iff_true]
  exact ⟨⟨(i 0).val, (i 0).isLt⟩, (mem_slotSet _ i).mpr rfl⟩

/-- Where element `y` of slot `k` lies in the buffer. -/
theorem slot_emb (k : Fin 8) (x : S256x8.Idx) :
    (slotM k).view.emb x = (slotR k).emb (Shape.reshapeEquiv squeezes_S1x256x8_S256x8.numel_eq x) := rfl

/-! ## Contents -/

/-- Device `c`'s block of `x`. -/
def xblk (c : Dev nD) : (cc0_stg0_0 : Ref sig .tc).ty.Contents (Elt F) :=
  (win0_0.blk (0 : Fin 1)).view.read (Elt F) ((s₀ m ρ).mem ((c : Thread nD τ).loc main_arg0))

/-- The eight largest candidates per row from the eight planes of a block, as the kernel computes them: the
    sorting network over the planes, then eight rounds of the maximum over the lanes. -/
def stageOf (p0 p1 p2 p3 p4 p5 p6 p7 : Vec F S256x128 .f32) : FVec F S1x256x8 .f32 :=
  let v52 := k0_pay21 p0 p1 p2 p3
  let v56 := k0_pay25 p4 p5 p6 p7
  let v58 := k0_pay27 p0 p1 p2 p3
  let v60 := k0_pay29 p4 p5 p6 p7
  let v61 := k0_pay30 p0 p1 p2 p3 p4 p5 p6 p7
  let v62 := k0_pay31 p0 p1 p2 p3 p4 p5 p6 p7
  let v63 := k0_pay32 p0 p1 p2 p3 p4 p5 p6 p7
  let v64 := k0_pay33 p0 p1 p2 p3 p4 p5 p6 p7
  let v65 := k0_pay34 p0 p1 p2 p3 p4 p5 p6 p7
  k0_pay76 (k0_pay47 v61) (k0_pay55 v61 v62 v63 v65) (k0_pay62 v61 v62 v63 v65) (k0_pay68 v52 v56 v61 v62 v63 v64 v65)
    (k0_pay70 v52 v56 v61 v62 v63 v64 v65) (k0_pay71 v52 v56 v58 v60 v61 v62 v63 v64 v65)
    (k0_pay72 v52 v56 v58 v60 v61 v62 v63 v64 v65) (k0_pay73 v52 v56 v58 v60 v61 v62 v63 v64 v65)
    (k0_pay74 v52 v56 v61 v62 v63 v64 v65) (k0_pay75 v52 v56 v61 v62 v63 v64 v65)

theorem inb_plane (k : Fin 8) : ∀ a, (![0, 128 * k.val] : Fin 2 → Nat) a + S256x128.size a ≤ S256x1024.size a := by
  intro a
  have hk := k.isLt
  fin_cases a
  · exact Nat.le_refl _
  · show 128 * k.val + 128 ≤ 1024; omega

/-- Plane `k` of a block: its columns `128 k` to `128 k + 127`. -/
abbrev planeR (k : Fin 8) : Rect S256x1024 := Rect.unit (s := S256x1024) ![0, 128 * k.val] S256x128.size (inb_plane k)
def plane (X : (cc0_stg0_0 : Ref sig .tc).ty.Contents (Elt F)) (k : Fin 8) : Vec F S256x128 .f32 :=
  xM.view.readAt (Elt F) (planeR k).toLoadRect X

/-- What a device whose block is `X` stores in its slot 0. -/
def stage (X : (cc0_stg0_0 : Ref sig .tc).ty.Contents (Elt F)) : FVec F S1x256x8 .f32 :=
  stageOf (plane X 0) (plane X 1) (plane X 2) (plane X 3) (plane X 4) (plane X 5) (plane X 6) (plane X 7)

/-- The contents device `c`'s eight slots end with: slot `k` holds the candidates of the device `c` xor `k`. -/
def slots (c : Dev nD) : (cc0_scratch0 : Ref sig .tc).ty.Contents (Elt F) :=
  fun i : S8x256x8.Idx => stage (xblk m ρ (xr c ⟨(i 0).val, (i 0).isLt⟩)) (ix3 (n0 := 1) 0 (i 1) (i 2))

theorem slots_emb (c : Dev nD) (k : Fin 8) (y : S1x256x8.Idx) :
    slots m ρ c ((slotR k).emb y) = stage (xblk m ρ (xr c k)) y := by
  have h0 : (y 0).val = 0 := by have : (y 0).val < 1 := (y 0).isLt; omega
  have hk : (⟨((slotR k).emb y 0).val, ((slotR k).emb y 0).isLt⟩ : Fin 8) = k := by
    apply Fin.ext; show k.val + 1 * (y 0).val = k.val; omega
  have hy : ix3 (n0 := 1) (n1 := 256) (n2 := 8) 0 ((slotR k).emb y 1) ((slotR k).emb y 2) = y := by
    funext a
    match a with
    | ⟨0, _⟩ => exact Fin.ext h0.symm
    | ⟨1, _⟩ => apply Fin.ext; show 0 + 1 * (y 1).val = (y 1).val; omega
    | ⟨2, _⟩ => apply Fin.ext; show 0 + 1 * (y 2).val = (y 2).val; omega
  show stage (xblk m ρ (xr c ⟨((slotR k).emb y 0).val, _⟩)) _ = _
  rw [hk, hy]

/-- A load of slot `k` reads the candidates of the device `c` xor `k`. -/
theorem read_slot (c : Dev nD) (k : Fin 8) :
    qM.view.readAt (Elt F) (slotR k).toLoadRect (slots m ρ c) = stage (xblk m ρ (xr c k)) :=
  funext fun y => slots_emb m ρ c k y

/-- A copy of slot 0 into slot `k + 1` of the partner leaves there what the partner's slot is to hold. -/
theorem landed (c : Dev nD) (k : Fin 7) (fd : (cc0_scratch0 : Ref sig .tc).ty.Contents (Elt F)) :
    ∀ i ∈ slotSet k.succ,
      (slotM k.succ).view.write (Elt F) fd ((slotM 0).view.read (Elt F) (slots m ρ c)) Finset.univ i
        = slots m ρ (peer k c) i := by
  intro i hi
  obtain ⟨x, -, rfl⟩ := Finset.mem_map.mp hi
  rw [View.write_emb_of_mem _ _ (Finset.mem_univ x), View.read_apply, slot_emb, slot_emb, cast_cast, cast_eq]
  exact (slots_emb m ρ c 0 _).trans ((congrArg (fun d => stage (xblk m ρ d) _) ((xr_zero c).trans (peer_peer k c).symm)).trans
    (slots_emb m ρ (peer k c) k.succ _).symm)

/-- The store of the candidates leaves slot 0 at its final contents. -/
theorem stored (c : Dev nD) (f : (cc0_scratch0 : Ref sig .tc).ty.Contents (Elt F)) :
    ∀ i ∈ slotSet 0,
      (qM.access (slotR 0) : View sig .tc _ _ _).write (Elt F) f (stage (xblk m ρ c)) Finset.univ i = slots m ρ c i := by
  intro i hi
  rw [slotSet_eq] at hi
  obtain ⟨y, rfl⟩ := (slotR 0).exists_idx_of_mem hi
  have h := View.write_emb_of_mem (v := (qM.access (slotR 0) : View sig .tc _ _ _)) (Val := Elt F) f (stage (xblk m ρ c)) (Finset.mem_univ y)
  refine (show _ = _ from h).trans ?_
  refine Eq.trans ?_ (slots_emb m ρ c 0 y).symm
  rw [xr_zero]; rfl

/-- The kernel's result on device `c`. -/
def outOf (s0 s1 s2 s3 s4 s5 s6 s7 : Vec F S1x256x8 .f32) : FVec F S256x8 .f32 :=
  k0_pay1 (k0_pay78 s0 s1 s2 s3 s4 s5 s6 s7) (k0_pay80 s0 s1 s2 s3 s4 s5 s6 s7) (k0_pay81 s0 s1 s2 s3 s4 s5 s6 s7)
def outAt (c : Dev nD) : (cc0_stg1_0 : Ref sig .tc).ty.Contents (Elt F) :=
  outOf (stage (xblk m ρ (xr c 0))) (stage (xblk m ρ (xr c 1))) (stage (xblk m ρ (xr c 2))) (stage (xblk m ρ (xr c 3)))
    (stage (xblk m ρ (xr c 4))) (stage (xblk m ρ (xr c 5))) (stage (xblk m ρ (xr c 6))) (stage (xblk m ρ (xr c 7)))

end Cert.TopK

end
-- ==== Proof.Schedule.lean ====
/-
# The handshake and the copies as one round of each semaphore

A device's barrier counter is raised once by each of its seven partners; partner `k`'s unit hands over the slot
the device will copy into. Each of the seven send counters hands back a share of slot 0 when its copy has been
read, each of the seven receive counters the slot its copy has filled.
-/
module

public import proofs.«01_k».proof.Proof.Slots

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Duties of the exchange are named by the partner number. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Semaphores -/

/-- The barrier semaphore, and the send and receive semaphores of partner `k`. -/
abbrev barS : Sem sig := (SemArray.scalar (sig.barrier 0 rfl) : Sems sig S_).sem
set_option backward.proofsInPublic true in
def sendS (k : Fin 7) : DmaSem sig := ⟨2 + k.val, (by decide : ∀ k : Fin 7, 2 + k.val < 16) k⟩
set_option backward.proofsInPublic true in
def recvS (k : Fin 7) : DmaSem sig := ⟨9 + k.val, (by decide : ∀ k : Fin 7, 9 + k.val < 16) k⟩

/-- The kernel's own semaphores: seven to send, seven to receive. -/
abbrev Own : Type := Fin 7 ⊕ Fin 7
abbrev dsem : Own → DmaSem sig | .inl k => sendS k | .inr k => recvS k
abbrev osem (o : Own) : SemLoc sig := .dma (dsem o)
/-- With the barrier, all the semaphores of the exchange. -/
abbrev Cel : Type := Unit ⊕ Own
abbrev csem : Cel → SemLoc sig | .inl _ => .reg barS | .inr o => osem o

abbrev barCell (c : Dev nD) : GSem nD τ sig := ((c : Thread nD τ), .reg barS)
abbrev ownCell (c : Dev nD) (o : Own) : GSem nD τ sig := ((c : Thread nD τ), osem o)
abbrev sendCell (c : Dev nD) (k : Fin 7) : GSem nD τ sig := ownCell c (.inl k)
abbrev recvCell (c : Dev nD) (k : Fin 7) : GSem nD τ sig := ownCell c (.inr k)
abbrev kcell (x : Dev nD × Cel) : GSem nD τ sig := ((x.1 : Thread nD τ), csem x.2)

/-- Which of the own semaphores a DMA semaphore is, if one. -/
def role (q : DmaSem sig) : Option Own :=
  if h : 2 ≤ q.val ∧ q.val < 9 then some (.inl ⟨q.val - 2, by omega⟩)
  else if h : 9 ≤ q.val ∧ q.val < 16 then some (.inr ⟨q.val - 9, by omega⟩) else none

theorem role_dsem (o : Own) : role (dsem o) = some o := by revert o; decide
theorem dsem_inj (o o' : Own) (h : dsem o = dsem o') : o = o' :=
  Option.some.inj ((role_dsem o).symm.trans ((congrArg role h).trans (role_dsem o')))
theorem osem_ne_bar (o : Own) : osem o ≠ .reg barS := fun h => by cases h

/-- The credit one slot's copy is worth. -/
abbrev N : ℕ := (slotM 0).view.dmaCredit
theorem N_pos : 0 < N := View.dmaCredit_pos _ (by decide)

/-! ## Resources -/

/-- Slot `k` of device `c` at contents `f`, in share `q`. -/
def slotPts (q : PosShare TreeShare) (c : Dev nD) (k : Fin 8) (f : Buf (Elt F) ((c : Thread nD τ).loc cc0_scratch0)) : sProp 𝕄 :=
  (slotM k).view.loc (c : Thread nD τ) ↦[(slotM k).view.set]{q} f

omit [FloatOps F] in
instance slotPts_storable (q : PosShare TreeShare) (c : Dev nD) (k : Fin 8) (f) :
    BI.Storable (upEmb : UEmb _ 𝕄) (slotPts (F := F) q c k f) := by unfold slotPts; infer_instance

/-- What is left of slot 0 after `n` copies were started, and the part the copy number `n` takes along. -/
def rem : ℕ → PosShare TreeShare
  | 0 => fullShare
  | n + 1 => (rem n).right
def part (n : ℕ) : PosShare TreeShare := (rem n).left

omit [FloatOps F] in
theorem slot_part (n : ℕ) (c : Dev nD) (k : Fin 8) (f : Buf (Elt F) ((c : Thread nD τ).loc cc0_scratch0)) :
    (slotPts (rem n) c k f : sProp 𝕄) ⊣⊢ iprop(slotPts (part n) c k f ∗ slotPts (rem (n + 1)) c k f) := by
  unfold slotPts; exact pointsTo_share (PosShare.mem_left_op_right (rem n))

omit [FloatOps F] in
/-- The eight slots are the whole buffer. -/
theorem slots_whole (c : Dev nD) (f : Buf (Elt F) ((c : Thread nD τ).loc cc0_scratch0)) :
    (((c : Thread nD τ).loc cc0_scratch0) ↦{fullShare} f : sProp 𝕄) = bigSep Finset.univ fun k : Fin 8 => slotPts fullShare c k f := by
  have h := pointsTo_biUnion (ℓ := (c : Thread nD τ).loc cc0_scratch0) (q := fullShare) (f := f) (Ix := Unit) (Name := ℕ) (U := UU) (Lvl := ℕ)
    (Finset.univ : Finset (Fin 8)) slotSet (fun k _ k' _ hk => slot_disjoint k k' hk)
  rw [slot_cover] at h
  exact h

/-! ## The schedule -/

/-- Partner `k`'s unit on `c`'s barrier hands over the partner's slot `k + 1`. -/
def barPay (c : Dev nD) (k : Fin 7) : sProp 𝕄 := iprop(∃ f, slotPts fullShare (peer k c) k.succ f)
/-- A send semaphore hands back the part of slot 0 its copy took; a receive semaphore the filled slot. -/
def ownPay (c : Dev nD) : Own → sProp 𝕄
  | .inl k => slotPts (part k.val) c 0 (slots m ρ c)
  | .inr k => slotPts fullShare c k.succ (slots m ρ c)

def barDuties (s : Sem sig) : Finset (Fin 7) := if s = barS then Finset.univ else ∅
def dmaDuties (q : DmaSem sig) : Finset (Fin 7) := if (role q).isSome then {0} else ∅
def semDuties : SemLoc sig → Finset (Fin 7) | .reg s => barDuties s | .dma q => dmaDuties q
def dmaPay (c : Dev nD) : Option Own → sProp 𝕄
  | some o => ownPay m ρ c o
  | none => iprop(emp)
def semPay (c : Dev nD) (d : Fin 7) : SemLoc sig → sProp 𝕄
  | .reg s => if s = barS then barPay c d else iprop(emp)
  | .dma q => dmaPay m ρ c (role q)

def exch : Rounds.Schedule (GSem nD τ sig) (Fin 7) 𝕄 where
  duties g r := if r = 0 ∧ g.1.2 = .tc then semDuties g.2 else ∅
  unitless _ := False
  amount g _ _ := if g.2 = .reg barS then 1 else N
  payload g _ d := semPay m ρ g.1.1 d g.2
  amount_pos g _ _ _ := by
    by_cases h : g.2 = .reg barS
    · rw [if_pos h]; exact Nat.one_pos
    · rw [if_neg h]; exact N_pos

instance ownPay_storable (c : Dev nD) (o : Own) : BI.Storable (upEmb : UEmb _ 𝕄) (ownPay (F := F) m ρ c o) := by
  rcases o with k | k <;> unfold ownPay <;> infer_instance
instance exch_payload_storable (g : GSem nD τ sig) (r : ℕ) (d : Fin 7) :
    BI.Storable (upEmb : UEmb _ 𝕄) ((exch (F := F) m ρ).payload g r d) := by
  show BI.Storable upEmb (semPay m ρ g.1.1 d g.2)
  unfold semPay barPay dmaPay
  (repeat' split) <;> infer_instance

section Sched
variable (c : Dev nD)

theorem duties_bar : (exch (F := F) m ρ).duties (barCell c) 0 = Finset.univ := by
  show (if 0 = 0 ∧ (Proc.tc : Proc τ) = .tc then barDuties barS else ∅) = _
  rw [if_pos ⟨rfl, rfl⟩]; exact if_pos rfl
theorem duties_own (o : Own) : (exch (F := F) m ρ).duties (ownCell c o) 0 = {0} := by
  show (if 0 = 0 ∧ (Proc.tc : Proc τ) = .tc then dmaDuties (dsem o) else ∅) = _
  rw [if_pos ⟨rfl, rfl⟩]; unfold dmaDuties; rw [role_dsem]; rfl
theorem duties_later (g : GSem nD τ sig) : ∀ r, 0 + 1 ≤ r → (exch (F := F) m ρ).duties g r = ∅ :=
  fun r hr => if_neg fun h => by omega
theorem amount_bar (d : Fin 7) : (exch (F := F) m ρ).amount (barCell c) 0 d = 1 := by
  show (if SemLoc.reg barS = .reg barS then 1 else N) = 1
  exact if_pos rfl
theorem amount_own (o : Own) (d : Fin 7) : (exch (F := F) m ρ).amount (ownCell c o) 0 d = N := by
  show (if osem o = .reg barS then 1 else N) = N
  exact if_neg (osem_ne_bar o)
theorem expect_bar : (exch (F := F) m ρ).expect (barCell c) 0 = 7 := by
  unfold Schedule.expect Schedule.amountOf
  rw [duties_bar, Finset.sum_congr rfl fun d _ => amount_bar m ρ c d]; rfl
theorem expect_own (o : Own) : (exch (F := F) m ρ).expect (ownCell c o) 0 = N := by
  unfold Schedule.expect Schedule.amountOf; rw [duties_own, Finset.sum_singleton, amount_own]
theorem payload_bar (d : Fin 7) : (exch (F := F) m ρ).payload (barCell c) 0 d = barPay c d := by
  show (if barS = barS then barPay c d else iprop(emp)) = _
  exact if_pos rfl
theorem payload_own (o : Own) (d : Fin 7) : (exch (F := F) m ρ).payload (ownCell c o) 0 d = ownPay m ρ c o := by
  show dmaPay m ρ c (role (dsem o)) = _
  rw [role_dsem]; rfl
theorem rest_bar : bigSep ((exch (F := F) m ρ).duties (barCell c) 0 \ ∅) (fun d => (exch (F := F) m ρ).payload (barCell c) 0 d)
    = bigSep Finset.univ fun k => barPay c k := by
  rw [Finset.sdiff_empty, duties_bar]; exact bigSep_congr fun d _ => payload_bar m ρ c d
theorem rest_own (o : Own) : bigSep ((exch (F := F) m ρ).duties (ownCell c o) 0 \ ∅) (fun d => (exch (F := F) m ρ).payload (ownCell c o) 0 d)
    = ownPay m ρ c o := by
  rw [Finset.sdiff_empty, duties_own, bigSep_singleton, payload_own]

end Sched

/-! ## What a device owes -/

/-- The credit of the copies still to start from number `n` on, and the units of the signals still to send. -/
def owedXfer (c : Dev nD) (n : ℕ) : CellTallies nD τ sig Unit :=
  ∑ k ∈ (Finset.univ : Finset (Fin 7)).filter (fun k => n ≤ k.val), tallyAt (recvCell (peer k c) k) () N
def owedBar (c : Dev nD) (n : ℕ) : CellTallies nD τ sig Unit :=
  ∑ k ∈ (Finset.univ : Finset (Fin 7)).filter (fun k => n ≤ k.val), tallyAt (barCell (peer k c)) () 1
def O₀ (c : Dev nD) : CellTallies nD τ sig Unit := owedXfer c 0 + owedBar c 0

theorem from_succ (k : Fin 7) : (Finset.univ : Finset (Fin 7)).filter (fun j => k.val ≤ j.val)
    = insert k ((Finset.univ : Finset (Fin 7)).filter (fun j => k.val + 1 ≤ j.val)) := by revert k; decide
theorem not_mem_from (k : Fin 7) : k ∉ (Finset.univ : Finset (Fin 7)).filter (fun j => k.val + 1 ≤ j.val) := by revert k; decide
theorem from_seven : (Finset.univ : Finset (Fin 7)).filter (fun j => 7 ≤ j.val) = ∅ := by decide

theorem owedXfer_step (c : Dev nD) (k : Fin 7) :
    owedXfer c k.val = owedXfer c (k.val + 1) + tallyAt (recvCell (peer k c) k) () N := by
  unfold owedXfer; rw [from_succ, Finset.sum_insert (not_mem_from k), add_comm]
theorem owedBar_step (c : Dev nD) (k : Fin 7) :
    owedBar c k.val = owedBar c (k.val + 1) + tallyAt (barCell (peer k c)) () 1 := by
  unfold owedBar; rw [from_succ, Finset.sum_insert (not_mem_from k), add_comm]
theorem owedXfer_seven (c : Dev nD) : owedXfer c 7 = 0 := by unfold owedXfer; rw [from_seven, Finset.sum_empty]
theorem owedBar_seven (c : Dev nD) : owedBar c 7 = 0 := by unfold owedBar; rw [from_seven, Finset.sum_empty]

theorem owedXfer_pos {c : Dev nD} {n : ℕ} {g : GSem nD τ sig} {u : Unit} (h : 0 < owedXfer c n g u) : ∃ k : Fin 7, g = recvCell (peer k c) k := by
  by_contra hn
  unfold owedXfer at h
  rw [Finset.sum_apply, Finsupp.finset_sum_apply, Finset.sum_eq_zero fun k _ => by
    rw [tallyAt_apply]; exact if_neg fun h' => hn ⟨k, h'.1⟩] at h
  exact Nat.lt_irrefl 0 h
theorem owedBar_pos {c : Dev nD} {n : ℕ} {g : GSem nD τ sig} {u : Unit} (h : 0 < owedBar c n g u) : ∃ k : Fin 7, g = barCell (peer k c) := by
  by_contra hn
  unfold owedBar at h
  rw [Finset.sum_apply, Finsupp.finset_sum_apply, Finset.sum_eq_zero fun k _ => by
    rw [tallyAt_apply]; exact if_neg fun h' => hn ⟨k, h'.1⟩] at h
  exact Nat.lt_irrefl 0 h

/-! ## Levels: barriers before receives, all else lowest -/

def L (g : GSem nD τ sig) : Finset Unit := if g.1.2 = .tc then {()} else ∅
def isRecv (q : DmaSem sig) : Bool := decide (9 ≤ q.val)
def semLv : SemLoc sig → ℕ | .reg s => if s = barS then 1 else 0 | .dma q => if isRecv q then 2 else 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (k : Fin 7) : semLv (osem (.inr k)) = 2 := by revert k; decide
theorem lv_bar : semLv (.reg barS) = 1 := by
  show (if barS = barS then 1 else 0) = 1
  exact if_pos rfl

omit [FloatOps F] in
/-- A device may wait on the two staging semaphores whatever it still owes. -/
theorem mayWait_stage (c : Dev nD) (q : DmaSem sig) (hq : isRecv q = false) (O : CellTallies nD τ sig Unit) (hO : O = O₀ c ∨ O = 0) :
    (levAts L lv : sProp 𝕄) ⊢ MayWait (c : Thread nD τ) (.dma q) () O := by
  rcases hO with rfl | rfl
  · have hpos : ∀ (g : GSem nD τ sig) (u : Unit), 0 < O₀ c g u → (∃ k : Fin 7, g = recvCell (peer k c) k) ∨ ∃ k : Fin 7, g = barCell (peer k c) := by
      intro g u hg
      unfold O₀ at hg
      rw [Pi.add_apply, Finsupp.add_apply] at hg
      rcases Nat.eq_zero_or_pos (owedXfer c 0 g u) with h0 | h0
      · rw [h0, Nat.zero_add] at hg; exact .inr (owedBar_pos hg)
      · exact .inl (owedXfer_pos h0)
    refine MayOwe.of_cut (L := L) (lev := lv) 0 (fun p hp => by rw [Finset.mem_singleton.mp hp, L_tc]; exact Finset.mem_singleton_self _)
      (fun g u hg => by rcases hpos g u hg with ⟨k, rfl⟩ | ⟨k, rfl⟩ <;> exact Finset.mem_singleton_self _)
      (fun p hp => by rw [Finset.mem_singleton.mp hp]; show (if isRecv q = true then 2 else 0) ≤ 0; rw [hq]; exact Nat.le_refl 0)
      (fun g u hg => by
        rcases hpos g u hg with ⟨k, rfl⟩ | ⟨k, rfl⟩
        · show 0 < semLv (osem (.inr k)); rw [lv_recv]; decide
        · show 0 < semLv (.reg barS); rw [lv_bar]; decide)
  · rw [MayWait_zero]; iintro -; iempintro

omit [FloatOps F] in
/-- At its barrier a device owes copies only. -/
theorem mayWait_bar (c : Dev nD) : (levAts L lv : sProp 𝕄) ⊢ MayWait (c : Thread nD τ) (.reg barS) () (owedXfer c 0) :=
  MayOwe.of_cut (L := L) (lev := lv) 1 (fun p hp => by rw [Finset.mem_singleton.mp hp, L_tc]; exact Finset.mem_singleton_self _)
    (fun g u hg => by obtain ⟨k, rfl⟩ := owedXfer_pos hg; exact Finset.mem_singleton_self _)
    (fun p hp => by rw [Finset.mem_singleton.mp hp]; show semLv (.reg barS) ≤ 1; rw [lv_bar])
    (fun g u hg => by obtain ⟨k, rfl⟩ := owedXfer_pos hg; show 1 < semLv (osem (.inr k)); rw [lv_recv]; decide)

end Cert.TopK

end
-- ==== Proof.Steps.lean ====
/-
# One signal, one copy, one pair of waits

The kernel's seven signals, copies and pairs of waits differ in the partner number only. Each kind is proved
once, for any partner.
-/
module

public import proofs.«01_k».proof.Proof.Schedule

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cel → ℕ)

abbrev 𝒱₀ : Variants := Variants.none

/-! ## What every device knows: the invariants of all counters, under the names `K`, and that all are at round 0 -/

def records : sProp 𝕄 :=
  iprop((bigSep Finset.univ fun x : Dev nD × Cel => cellInv ER (exch m ρ) (K x) (kcell x))
    ∗ bigSep Finset.univ fun x : Dev nD × Cel => reached ER (kcell x) 0)

instance records_persistent : BI.Persistent (records (F := F) m ρ K) := by unfold records; infer_instance

theorem known (x : Dev nD × Cel) : records (F := F) m ρ K ⊢ iprop(cellInv ER (exch m ρ) (K x) (kcell x) ∗ reached ER (kcell x) 0) := by
  unfold records
  exact BI.sep_mono (bigSep_elim (Finset.mem_univ x)) (bigSep_elim (Finset.mem_univ x))

/-- Device `c` owes `O`, whatever waits it has recorded. -/
def owesE (c : Dev nD) (O : CellTallies nD τ sig Unit) : sProp 𝕄 := iprop(∃ W, owes (c : Thread nD τ) O W)

/-- What the signal to partner `k` spends. -/
def sigKit (c : Dev nD) (k : Fin 7) : sProp 𝕄 := dutyTok ER (barCell (peer k c)) 0 k
/-- What the copy to partner `k` spends beside the buffers. -/
def cpyKit (c : Dev nD) (k : Fin 7) : sProp 𝕄 := iprop(dutyTok ER (sendCell c k) 0 0 ∗ dutyTok ER (recvCell (peer k c) k) 0 0)
/-- What the two waits of partner `k` start from. -/
def posKit (c : Dev nD) (k : Fin 7) : sProp 𝕄 := iprop(atPos ER (sendCell c k) 0 ∅ 0 ∗ atPos ER (recvCell c k) 0 ∅ 0)
def recvCred (c : Dev nD) (k : Fin 7) : sProp 𝕄 := cred (tallyAt (recvCell c k) () N)

/-- A signal hands the device's slot `k + 1` to partner `k`. -/
theorem signal_step (c n : Dev nD) (k : Fin 7) (hn : n = peer k c) (f : Buf (Elt F) ((c : Thread nD τ).loc cc0_scratch0))
    {α : Type} {Q : α → sProp 𝕄} {kont : PUnit → Prog (TpuEff nD τ sig (Elt F) Λ₀ .tc) α} :
    iprop(records m ρ K ∗ owesE c (owedXfer c 0 + owedBar c k.val) ∗ sigKit c k ∗ slotPts fullShare c k.succ f)
      ⊢ iprop((owesE c (owedXfer c 0 + owedBar c (k.val + 1)) -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS (1#32).toInt) kont) Q) := by
  subst hn
  unfold owesE sigKit
  iintro ⟨#HR, ⟨%W, HO⟩, Htok, Hslot⟩ Hk
  ihave HI := (known m ρ K (peer k c, Sum.inl ())) $$ HR
  icases HI with ⟨#HI, #Hr⟩
  iapply (Rounds.wp_signal 𝒱₀ ER (exch m ρ) (c : Thread nD τ) none (dst := (peer k c : Thread nD τ)) (κ := K (peer k c, Sum.inl ()))
      (d := k) (by rw [duties_bar]; exact Finset.mem_univ _) ((amount_bar m ρ (peer k c) k).trans (by decide)) () (O₀ := owedXfer c 0 + owedBar c k.val) (owedXfer c 0 + owedBar c (k.val + 1))
      ((congrArg (owedXfer c 0 + ·) (owedBar_step c k)).trans (add_assoc _ _ _).symm))
    $$ [HO Htok Hslot]
  · isplitr; · iexact HI
    isplitl [HO]; · iexact HO
    isplitl [Htok]; · iexact Htok
    isplitl [Hslot]
    · rw [payload_bar]; unfold barPay; rw [peer_peer]; iexists f; iexact Hslot
    iexact Hr
  iintro HO
  iapply Hk
  iexists W; iexact HO

/-- The barrier: seven units wait, the seven partners' slots come with them. -/
theorem barrier_step (c : Dev nD)
    {α : Type} {Q : α → sProp 𝕄} {kont : PUnit → Prog (TpuEff nD τ sig (Elt F) Λ₀ .tc) α} :
    iprop(records m ρ K ∗ levAts L lv ∗ owesE c (owedXfer c 0) ∗ cred (tallyAt (barCell c) () 7) ∗ atPos ER (barCell c) 0 ∅ 0)
      ⊢ iprop(((owesE c (owedXfer c 0) ∗ semVal (barCell c) 0 ∗ bigSep Finset.univ fun k => barPay c k)
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS (7#32).toInt) kont) Q) := by
  unfold owesE
  iintro ⟨#HR, #Hlev, ⟨%W, HO⟩, Hc, Hat⟩ Hk
  ihave HI := (known m ρ K (c, Sum.inl ())) $$ HR
  icases HI with ⟨#HI, -⟩
  iapply (Rounds.wp_wait_rest_token 𝒱₀ ER (exch m ρ) (c : Thread nD τ) none (κ := K (c, Sum.inl ()))
      (wpE_semWait_eq 𝒱₀ (c : Thread nD τ) none Set.univ) (Set.mem_univ _) () (O := owedXfer c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (exch m ρ) (Set.mem_univ (K (c, Sum.inl ()))) (fun h => h) (R := 0 + 1) (duties_later m ρ (barCell c))) $$ [Hat] with Hz
  · isplitr; · iexact HI
    iexact Hat
  iapply Hk
  isplitl [HO]; · iexists _; iexact HO
  isplitl [Hz]; · iexact Hz
  iexact Hp

/-- A copy of slot 0 to slot `k + 1` of partner `k`: it takes the next part of slot 0 along. -/
theorem copy_step (c n : Dev nD) (k : Fin 7) (hn : n = peer k c)
    {hsc : (slotM k.succ : Memref sig (Dev.tc n : Thread nD τ).2.kind .vmem S256x8 .f32).view.ref.isScScratch = false}
    {hsrc : (slotM 0).view.WordExact} {hdst : (slotM k.succ).view.WordExact}
    {hsem : DmaTarget.Typed .vmem (.dma (recvS k)) (.remote (Dev.tc n : Thread nD τ) (slotM k.succ) (.dma (sendS k)) hsc)}
    {α : Type} {Q : α → sProp 𝕄} {kont : PUnit → Prog (TpuEff nD τ sig (Elt F) Λ₀ .tc) α} :
    iprop(records m ρ K ∗ owesE c (owedXfer c k.val) ∗ cpyKit c k ∗ slotPts (rem k.val) c 0 (slots m ρ c) ∗ barPay c k)
      ⊢ iprop(((owesE c (owedXfer c (k.val + 1)) ∗ cred (tallyAt (sendCell c k) () N) ∗ slotPts (rem (k.val + 1)) c 0 (slots m ρ c))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotM 0) (.remote (Dev.tc n : Thread nD τ) (slotM k.succ) (.dma (sendS k)) hsc) (.dma (recvS k)) hsrc hdst hsem) kont) Q) := by
  subst hn
  unfold owesE cpyKit barPay
  iintro ⟨#HR, ⟨%W, HO⟩, ⟨HtS, HtV⟩, Hs, ⟨%fd, Hd⟩⟩ Hk
  ihave HI := (known m ρ K (c, Sum.inr (Sum.inl k))) $$ HR
  icases HI with ⟨#HIS, #HrS⟩
  ihave HI := (known m ρ K (peer k c, Sum.inr (Sum.inr k))) $$ HR
  icases HI with ⟨#HIV, #HrV⟩
  ihave Hs2 := (slot_part k.val c 0 (slots m ρ c)).1 $$ Hs
  icases Hs2 with ⟨Hp, Hrem⟩
  unfold slotPts
  iapply (Rounds.wp_send_pointsTo 𝒱₀ ER (exch m ρ) (c : Thread nD τ) none (c' := ((peer k c : Dev nD) : Thread nD τ)) (κ₁ := K (c, Sum.inr (Sum.inl k))) (κ₂ := K (peer k c, Sum.inr (Sum.inr k)))
    (r₁ := 0) (r₂ := 0) (d₁ := (0 : Fin 7)) (d₂ := (0 : Fin 7)) (fd := fd) (src := slotM 0) (dst := slotM k.succ) (q := part k.val) (fs := slots m ρ c)
    (sS := .dma (sendS k)) (sem := .dma (recvS k))
    (by rw [duties_own m ρ c (.inl k)]; exact Finset.mem_singleton_self _) (by rw [duties_own m ρ (peer k c) (.inr k)]; exact Finset.mem_singleton_self _)
    () () N rfl (amount_own m ρ c (.inl k) 0) (amount_own m ρ (peer k c) (.inr k) 0) (owedXfer c (k.val + 1)) (owedXfer_step c k) (W := W)
    (by rw [payload_own m ρ c (.inl k)]; exact BI.Entails.refl _)
    (by rw [payload_own m ρ (peer k c) (.inr k)]; exact Entails.of_eq (pointsTo_congr (landed m ρ c k fd)))) $$ [Hp Hd HO HtS HtV]
  · isplitr; · iexact HIS
    isplitr; · iexact HIV
    isplitl [Hp]; · iexact Hp
    isplitl [Hd]; · iexact Hd
    isplitl [HO]; · iexact HO
    isplitl [HtS]; · iexact HtS
    isplitr; · iexact HrS
    isplitl [HtV]; · iexact HtV
    iexact HrV
  iintro ⟨Hc, HO⟩
  iapply Hk
  isplitl [HO]; · iexists W; iexact HO
  isplitl [Hc]; · iexact Hc
  iexact Hrem

/-- A wait on one of the device's own semaphores, nothing owed: its payload, and the counter at zero for good. -/
theorem own_wait (c : Dev nD) (o : Own) (src dst : Memref sig .tc .vmem S256x8 .f32) {hsrc : src.view.WordExact} {hdst : dst.view.WordExact}
    (hN : dst.view.dmaCredit = N)
    {α : Type} {Q : α → sProp 𝕄} {kont : PUnit → Prog (TpuEff nD τ sig (Elt F) Λ₀ .tc) α} :
    iprop(records m ρ K ∗ owesE c 0 ∗ cred (tallyAt (ownCell c o) () N) ∗ atPos ER (ownCell c o) 0 ∅ 0)
      ⊢ iprop(((owesE c 0 ∗ semVal (ownCell c o) 0 ∗ ownPay m ρ c o)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (dsem o) src dst hsrc hdst) kont) Q) := by
  unfold owesE
  iintro ⟨#HR, ⟨%W, HO⟩, Hc, Hat⟩ Hk
  ihave HI := (known m ρ K (c, Sum.inr o)) $$ HR
  icases HI with ⟨#HI, -⟩
  iapply (Rounds.wp_wait_rest_token 𝒱₀ ER (exch m ρ) (c : Thread nD τ) none (κ := K (c, Sum.inr o))
      (wpE_waitDma2_eq 𝒱₀ (c : Thread nD τ) none Set.univ) (Set.mem_univ _) () (O := 0) (W := W) (R := 0) (m := 0) (T := ∅)
      (by rw [Nat.zero_add, hN, expect_own])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_own m ρ c o)) $$ Hpay
  imod (Rounds.cell_close ER (exch m ρ) (Set.mem_univ (K (c, Sum.inr o))) (fun h => h) (R := 0 + 1) (duties_later m ρ (ownCell c o))) $$ [Hat] with Hz
  · isplitr; · iexact HI
    iexact Hat
  iapply Hk
  isplitl [HO]; · iexists _; iexact HO
  isplitl [Hz]; · iexact Hz
  iexact Hp

/-- The two waits of partner `k`: the part of slot 0 comes back and slot `k + 1` is filled. -/
theorem waits_step (c : Dev nD) (k : Fin 7) {h1 : (slotM k.succ).view.WordExact} {h2 : (slotM 0).view.WordExact}
    {h3 : (slotM 0).view.WordExact} {h4 : (slotM k.succ).view.WordExact}
    {α : Type} {Q : α → sProp 𝕄} {kont : PUnit → Prog (TpuEff nD τ sig (Elt F) Λ₀ .tc) α} :
    iprop(records m ρ K ∗ owesE c 0 ∗ posKit c k ∗ cred (tallyAt (sendCell c k) () N) ∗ recvCred c k)
      ⊢ iprop(((owesE c 0 ∗ (semVal (sendCell c k) 0 ∗ semVal (recvCell c k) 0) ∗ slotPts (part k.val) c 0 (slots m ρ c)
              ∗ slotPts fullShare c k.succ (slots m ρ c))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendS k) (slotM k.succ) (slotM 0) h1 h2) fun _ => .op (.waitDma2 (recvS k) (slotM 0) (slotM k.succ) h3 h4) kont) Q) := by
  unfold posKit recvCred
  iintro ⟨#HR, HO, ⟨HaS, HaV⟩, HcS, HcV⟩ Hk
  iapply (own_wait m ρ K c (.inl k) (slotM k.succ) (slotM 0) rfl) $$ [HO HcS HaS]
  · isplitr; · iexact HR
    isplitl [HO]; · iexact HO
    isplitl [HcS]; · iexact HcS
    iexact HaS
  iintro ⟨HO, HzS, Hp⟩
  iapply (own_wait m ρ K c (.inr k) (slotM 0) (slotM k.succ) rfl) $$ [HO HcV HaV]
  · isplitr; · iexact HR
    isplitl [HO]; · iexact HO
    isplitl [HcV]; · iexact HcV
    iexact HaV
  iintro ⟨HO, HzV, Hd⟩
  unfold ownPay
  iapply Hk
  isplitl [HO]; · iexact HO
  isplitl [HzS HzV]
  · isplitl [HzS] <;> iassumption
  isplitl [Hp]; · iexact Hp
  iexact Hd

end Cert.TopK

end
-- ==== Proof.Body.lean ====
/-
# The body on one device

From the exchange's resources, its block of `x` and a result buffer, one device's body ends with the eight slots
at their final contents, the result computed from them, all counters at zero and nothing owed.
-/
module

public import proofs.«01_k».proof.Proof.Steps

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c` holds of the exchange, beside the credit handed out at launch. -/
def linear (c : Dev nD) : sProp 𝕄 :=
  iprop(atPos ER (barCell c) 0 ∅ 0 ∗ (bigSep Finset.univ fun k => posKit c k) ∗ (bigSep Finset.univ fun k => sigKit c k)
    ∗ bigSep Finset.univ fun k => cpyKit c k)
def creds (c : Dev nD) : sProp 𝕄 :=
  iprop(cred (tallyAt (barCell c) () 7) ∗ bigSep Finset.univ fun k => recvCred c k)

/-- What a device's body starts from. -/
def start (c : Dev nD) : sProp 𝕄 :=
  iprop((∃ K, records m ρ K ∗ linear c) ∗ creds c ∗ levAts L lv)

def Φ₀ (c : Dev nD) : sProp 𝕄 := iprop(start m ρ c ∗ ∃ f, ((c : Thread nD τ).loc cc0_scratch0) ↦{fullShare} f)
/-- What it ends with: the slots' final contents and every counter at zero. -/
def Φ₁ (c : Dev nD) : sProp 𝕄 :=
  iprop((((c : Thread nD τ).loc cc0_scratch0) ↦{fullShare} slots m ρ c) ∗ semVal (barCell c) 0
    ∗ bigSep Finset.univ fun k : Fin 7 => iprop(semVal (sendCell c k) 0 ∗ semVal (recvCell c k) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Names for what the program prints -/

theorem send1 : ((cc0_scratch1.slice (Rect.unit (s := S7) ![0] ![1] inb_S7_S1_0)).squeeze S_ squeezes_S1_S_).sem = sendS 0 := rfl
theorem send2 : ((cc0_scratch1.slice (Rect.unit (s := S7) ![1] ![1] inb_S7_S1_1)).squeeze S_ squeezes_S1_S_).sem = sendS 1 := rfl
theorem send3 : ((cc0_scratch1.slice (Rect.unit (s := S7) ![2] ![1] inb_S7_S1_2)).squeeze S_ squeezes_S1_S_).sem = sendS 2 := rfl
theorem send4 : ((cc0_scratch1.slice (Rect.unit (s := S7) ![3] ![1] inb_S7_S1_3)).squeeze S_ squeezes_S1_S_).sem = sendS 3 := rfl
theorem send5 : ((cc0_scratch1.slice (Rect.unit (s := S7) ![4] ![1] inb_S7_S1_4)).squeeze S_ squeezes_S1_S_).sem = sendS 4 := rfl
theorem send6 : ((cc0_scratch1.slice (Rect.unit (s := S7) ![5] ![1] inb_S7_S1_5)).squeeze S_ squeezes_S1_S_).sem = sendS 5 := rfl
theorem send7 : ((cc0_scratch1.slice (Rect.unit (s := S7) ![6] ![1] inb_S7_S1_6)).squeeze S_ squeezes_S1_S_).sem = sendS 6 := rfl
theorem recv1 : ((cc0_scratch2.slice (Rect.unit (s := S7) ![0] ![1] inb_S7_S1_0)).squeeze S_ squeezes_S1_S_).sem = recvS 0 := rfl
theorem recv2 : ((cc0_scratch2.slice (Rect.unit (s := S7) ![1] ![1] inb_S7_S1_1)).squeeze S_ squeezes_S1_S_).sem = recvS 1 := rfl
theorem recv3 : ((cc0_scratch2.slice (Rect.unit (s := S7) ![2] ![1] inb_S7_S1_2)).squeeze S_ squeezes_S1_S_).sem = recvS 2 := rfl
theorem recv4 : ((cc0_scratch2.slice (Rect.unit (s := S7) ![3] ![1] inb_S7_S1_3)).squeeze S_ squeezes_S1_S_).sem = recvS 3 := rfl
theorem recv5 : ((cc0_scratch2.slice (Rect.unit (s := S7) ![4] ![1] inb_S7_S1_4)).squeeze S_ squeezes_S1_S_).sem = recvS 4 := rfl
theorem recv6 : ((cc0_scratch2.slice (Rect.unit (s := S7) ![5] ![1] inb_S7_S1_5)).squeeze S_ squeezes_S1_S_).sem = recvS 5 := rfl
theorem recv7 : ((cc0_scratch2.slice (Rect.unit (s := S7) ![6] ![1] inb_S7_S1_6)).squeeze S_ squeezes_S1_S_).sem = recvS 6 := rfl
theorem slotR0 : Rect.unit (s := S8x256x8) ![0, 0, 0] ![1, 256, 8] inb_S8x256x8_S1x256x8_0_0_0 = slotR 0 := rfl
theorem slotR1 : Rect.unit (s := S8x256x8) ![1, 0, 0] ![1, 256, 8] inb_S8x256x8_S1x256x8_1_0_0 = slotR (Fin.succ (0 : Fin 7)) := rfl
theorem slotR2 : Rect.unit (s := S8x256x8) ![2, 0, 0] ![1, 256, 8] inb_S8x256x8_S1x256x8_2_0_0 = slotR (Fin.succ (1 : Fin 7)) := rfl
theorem slotR3 : Rect.unit (s := S8x256x8) ![3, 0, 0] ![1, 256, 8] inb_S8x256x8_S1x256x8_3_0_0 = slotR (Fin.succ (2 : Fin 7)) := rfl
theorem slotR4 : Rect.unit (s := S8x256x8) ![4, 0, 0] ![1, 256, 8] inb_S8x256x8_S1x256x8_4_0_0 = slotR (Fin.succ (3 : Fin 7)) := rfl
theorem slotR5 : Rect.unit (s := S8x256x8) ![5, 0, 0] ![1, 256, 8] inb_S8x256x8_S1x256x8_5_0_0 = slotR (Fin.succ (4 : Fin 7)) := rfl
theorem slotR6 : Rect.unit (s := S8x256x8) ![6, 0, 0] ![1, 256, 8] inb_S8x256x8_S1x256x8_6_0_0 = slotR (Fin.succ (5 : Fin 7)) := rfl
theorem slotR7 : Rect.unit (s := S8x256x8) ![7, 0, 0] ![1, 256, 8] inb_S8x256x8_S1x256x8_7_0_0 = slotR (Fin.succ (6 : Fin 7)) := rfl
theorem planeR0 : Rect.unit (s := S256x1024) ![0, 0] ![256, 128] inb_S256x1024_S256x128_0_0 = planeR 0 := rfl
theorem planeR1 : Rect.unit (s := S256x1024) ![0, 128] ![256, 128] inb_S256x1024_S256x128_0_128 = planeR 1 := rfl
theorem planeR2 : Rect.unit (s := S256x1024) ![0, 256] ![256, 128] inb_S256x1024_S256x128_0_256 = planeR 2 := rfl
theorem planeR3 : Rect.unit (s := S256x1024) ![0, 384] ![256, 128] inb_S256x1024_S256x128_0_384 = planeR 3 := rfl
theorem planeR4 : Rect.unit (s := S256x1024) ![0, 512] ![256, 128] inb_S256x1024_S256x128_0_512 = planeR 4 := rfl
theorem planeR5 : Rect.unit (s := S256x1024) ![0, 640] ![256, 128] inb_S256x1024_S256x128_0_640 = planeR 5 := rfl
theorem planeR6 : Rect.unit (s := S256x1024) ![0, 768] ![256, 128] inb_S256x1024_S256x128_0_768 = planeR 6 := rfl
theorem planeR7 : Rect.unit (s := S256x1024) ![0, 896] ![256, 128] inb_S256x1024_S256x128_0_896 = planeR 7 := rfl

/-! ## Loads and stores of one slot and of the result -/

theorem slot_load (k : Fin 8) : qM.view.setOn (slotR k).toLoadRect.set ⊆ slotSet k := by
  intro i hi
  rw [slotSet_eq]
  have h := View.set_slice_whole (cc0_scratch0 : Ref sig .tc) (slotR k)
  rw [View.set_slice] at h
  exact (congrArg (i ∈ ·) h).mp hi

theorem slot_store : (qM.access (slotR 0) : View sig .tc _ _ _).setOn Finset.univ ⊆ slotSet 0 := by
  intro i hi
  rw [slotSet_eq, ← View.set_slice_whole (cc0_scratch0 : Ref sig .tc) (slotR 0)]
  exact hi

theorem origin : (![0, 0] : Fin 2 → Nat) = fun _ => 0 := funext fun a => by fin_cases a <;> rfl
abbrev outR : Rect S256x8 := Rect.unit (s := S256x8) ![0, 0] S256x8.size inb_S256x8_S256x8_0_0
theorem write_out (f w : (cc0_stg1_0 : Ref sig .tc).ty.Contents (Elt F)) :
    (oM.access outR : View sig .tc _ _ _).write (Elt F) f w Finset.univ = w :=
  Memref.write_access_unit_zero_univ (Elt F) cc0_stg1_0 origin _ f w

/-- A load of slot `k`, held in any share at its final contents. -/
theorem load_step (c : Dev nD) (k : Fin 8) (q : PosShare TreeShare) {hl : qM.view.LoadsAt (slotR k).toLoadRect}
    {α : Type} {Q : α → sProp 𝕄} {kont : Vec F S1x256x8 .f32 → Prog (TpuEff nD τ sig (Elt F) Λ₀ .tc) α} :
    (slotPts q c k (slots m ρ c) : sProp 𝕄)
      ⊢ iprop((slotPts q c k (slots m ρ c) -∗ wp frame (wpE (defs₀ (F := F)) 𝒱₀ (c : Thread nD τ) none) Set.univ (kont (stage (xblk m ρ (xr c k)))) Q)
          -∗ wp frame (wpE (defs₀ (F := F)) 𝒱₀ (c : Thread nD τ) none) Set.univ (.op (.load qM (slotR k).toLoadRect hl) kont) Q) := by
  rw [← read_slot m ρ c k]
  exact wp_load 𝒱₀ (c : Thread nD τ) none Set.univ (m := qM) (slot_load k)

/-- A load of slot 0 whose value is not used. -/
theorem peek_step (c : Dev nD) (f : Buf (Elt F) ((c : Thread nD τ).loc cc0_scratch0)) {hl : qM.view.LoadsAt (slotR 0).toLoadRect}
    {α : Type} {Q : α → sProp 𝕄} {kont : Vec F S1x256x8 .f32 → Prog (TpuEff nD τ sig (Elt F) Λ₀ .tc) α} (p : Prog (TpuEff nD τ sig (Elt F) Λ₀ .tc) α)
    (hp : ∀ v, kont v = p) :
    (slotPts fullShare c 0 f : sProp 𝕄)
      ⊢ iprop((slotPts fullShare c 0 f -∗ wp frame (wpE (defs₀ (F := F)) 𝒱₀ (c : Thread nD τ) none) Set.univ p Q)
          -∗ wp frame (wpE (defs₀ (F := F)) 𝒱₀ (c : Thread nD τ) none) Set.univ (.op (.load qM (slotR 0).toLoadRect hl) kont) Q) := by
  rw [← hp (qM.view.readAt (Elt F) (slotR 0).toLoadRect f)]
  exact wp_load 𝒱₀ (c : Thread nD τ) none Set.univ (m := qM) (slot_load 0)

/-- The store of a device's own candidates brings slot 0 to its final contents. -/
theorem store_step (c : Dev nD) (f : Buf (Elt F) ((c : Thread nD τ).loc cc0_scratch0)) {w : Vec F S1x256x8 .f32} (hw : w = stage (xblk m ρ c))
    {hx : (qM.access (slotR 0) : View sig .tc _ _ _).Stores Finset.univ} {hm}
    {α : Type} {Q : α → sProp 𝕄} {kont : PUnit → Prog (TpuEff nD τ sig (Elt F) Λ₀ .tc) α} :
    (slotPts fullShare c 0 f : sProp 𝕄)
      ⊢ iprop((slotPts (rem 0) c 0 (slots m ρ c) -∗ wp frame (wpE (defs₀ (F := F)) 𝒱₀ (c : Thread nD τ) none) Set.univ (kont ⟨⟩) Q)
          -∗ wp frame (wpE (defs₀ (F := F)) 𝒱₀ (c : Thread nD τ) none) Set.univ (.op (.store qM (slotR 0) w Finset.univ hx hm) kont) Q) := by
  subst hw
  rw [show (slotPts (rem 0) c 0 (slots m ρ c) : sProp 𝕄)
    = ((qM.access (slotR 0)).loc (c : Thread nD τ) ↦[slotSet 0]{fullShare} ((qM.access (slotR 0)).write (Elt F) f (stage (xblk m ρ c)) Finset.univ))
    from (pointsTo_congr (stored m ρ c f)).symm]
  exact wp_store 𝒱₀ (c : Thread nD τ) none Set.univ (m := qM) (r := slotR 0) (Mk := Finset.univ) slot_store

/-! ## The body -/

variable (K : Dev nD × Cel → ℕ)

omit [FloatOps F] in
theorem over7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem over8 (Φ : Fin 8 → sProp 𝕄) : bigSep Finset.univ Φ = iprop(Φ 0 ∗ Φ (Fin.succ (0 : Fin 7)) ∗ Φ (Fin.succ (1 : Fin 7)) ∗ Φ (Fin.succ (2 : Fin 7))
    ∗ Φ (Fin.succ (3 : Fin 7)) ∗ Φ (Fin.succ (4 : Fin 7)) ∗ Φ (Fin.succ (5 : Fin 7)) ∗ Φ (Fin.succ (6 : Fin 7))) :=
  bigSep_univ_eq_bigSepL [0, 1, 2, 3, 4, 5, 6, 7] (by decide) (by decide) Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(((records m ρ K ∗ linear c) ∗ (creds c ∗ levAts L lv) ∗ ∃ f, ((c : Thread nD τ).loc cc0_scratch0) ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xblk m ρ c) ∗ stg c cc0_stg1_0 (outAt m ρ c))

set_option maxHeartbeats 4000000 in
set_option maxRecDepth 8000 in
/-- The body, one step after the other in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, Prog.bind_assoc, wp_deviceId]
  simp only [send1, send2, send3, send4, send5, send6, send7, recv1, recv2, recv3, recv4, recv5, recv6, recv7,
    slotR0, slotR1, slotR2, slotR3, slotR4, slotR5, slotR6, slotR7, planeR0, planeR1, planeR2, planeR3, planeR4, planeR5, planeR6, planeR7]
  unfold bodyPre linear creds
  rw [over7, over7, over7, over7]
  iintro ⟨⟨⟨⟨#HR, HaB, Hpos, Hsig, Hcpy⟩, ⟨⟨HcB, HcV⟩, #Hlev⟩, ⟨%f, Hbuf⟩⟩, Ho, ⟨%d0, %g0, %hg0, Hx⟩, ⟨%d1, %g1, %hg1, Hout⟩⟩, Hk⟩
  have hx : g0 = xblk m ρ c := by rw [hg0]; unfold Dat.before; rw [if_pos (fetch_0 t₀)]; rfl
  subst hx
  icases Hpos with ⟨Hp0, Hp1, Hp2, Hp3, Hp4, Hp5, Hp6⟩
  icases Hsig with ⟨Ht0, Ht1, Ht2, Ht3, Ht4, Ht5, Ht6⟩
  icases Hcpy with ⟨Hc0, Hc1, Hc2, Hc3, Hc4, Hc5, Hc6⟩
  icases HcV with ⟨Hv0, Hv1, Hv2, Hv3, Hv4, Hv5, Hv6⟩
  ihave Hsl := (Entails.of_eq ((slots_whole c f).trans (over8 _))) $$ Hbuf
  icases Hsl with ⟨Hs, Hs0, Hs1, Hs2, Hs3, Hs4, Hs5, Hs6⟩
  unfold Dat.owesAt Pipeline.owesWithin
  icases Ho with ⟨%W, %hW, HO⟩
  ihave HO := (show iprop(owes (c : Thread nD τ) ((dats m ρ 0 c).owed t₀.castSucc) W) ⊢ (owesE c (owedXfer c 0 + owedBar c 0) : sProp 𝕄) from by
    unfold owesE; iintro H; iexists W; iexact H) $$ HO
  iapply (signal_step m ρ K c _ 0 (sig1 c) f) $$ [HO Ht0 Hs0]
  · isplitr; · iexact HR
    isplitl [HO]; · iexact HO
    isplitl [Ht0]; · iexact Ht0
    iexact Hs0
  iintro HO
  iapply (signal_step m ρ K c _ 1 (sig2 c) f) $$ [HO Ht1 Hs1]
  · isplitr; · iexact HR
    isplitl [HO]; · iexact HO
    isplitl [Ht1]; · iexact Ht1
    iexact Hs1
  iintro HO
  iapply (signal_step m ρ K c _ 2 (sig3 c) f) $$ [HO Ht2 Hs2]
  · isplitr; · iexact HR
    isplitl [HO]; · iexact HO
    isplitl [Ht2]; · iexact Ht2
    iexact Hs2
  iintro HO
  iapply (signal_step m ρ K c _ 3 (sig4 c) f) $$ [HO Ht3 Hs3]
  · isplitr; · iexact HR
    isplitl [HO]; · iexact HO
    isplitl [Ht3]; · iexact Ht3
    iexact Hs3
  iintro HO
  iapply (signal_step m ρ K c _ 4 (sig5 c) f) $$ [HO Ht4 Hs4]
  · isplitr; · iexact HR
    isplitl [HO]; · iexact HO
    isplitl [Ht4]; · iexact Ht4
    iexact Hs4
  iintro HO
  iapply (signal_step m ρ K c _ 5 (sig6 c) f) $$ [HO Ht5 Hs5]
  · isplitr; · iexact HR
    isplitl [HO]; · iexact HO
    isplitl [Ht5]; · iexact Ht5
    iexact Hs5
  iintro HO
  iapply (signal_step m ρ K c _ 6 (sig7 c) f) $$ [HO Ht6 Hs6]
  · isplitr; · iexact HR
    isplitl [HO]; · iexact HO
    isplitl [Ht6]; · iexact Ht6
    iexact Hs6
  iintro HO
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (peek_step c f _ (fun _ => rfl)) $$ Hs; iintro Hs
  iapply (store_step m ρ c f rfl) $$ Hs; iintro Hs
  iapply (barrier_step m ρ K c) $$ [HO HcB HaB]
  · isplitr; · iexact HR
    isplitr; · iexact Hlev
    isplitl [HO]
    · iapply (Entails.of_eq (congrArg (owesE (F := F) c)
        (show owedXfer c 0 + owedBar c 7 = owedXfer c 0 by rw [owedBar_seven, add_zero]))); iexact HO
    isplitl [HcB]; · iexact HcB
    iexact HaB
  rw [over7]
  iintro ⟨HO, HzB, Hb0, Hb1, Hb2, Hb3, Hb4, Hb5, Hb6⟩
  iapply (copy_step m ρ K c _ 0 (cpy1 c)) $$ [HO Hc0 Hs Hb0]
  · isplitr; · iexact HR
    isplitl [HO]; · iexact HO
    isplitl [Hc0]; · iexact Hc0
    isplitl [Hs]; · iexact Hs
    iexact Hb0
  iintro ⟨HO, Hw0, Hs⟩
  iapply (copy_step m ρ K c _ 1 (cpy2 c)) $$ [HO Hc1 Hs Hb1]
  · isplitr; · iexact HR
    isplitl [HO]; · iexact HO
    isplitl [Hc1]; · iexact Hc1
    isplitl [Hs]; · iexact Hs
    iexact Hb1
  iintro ⟨HO, Hw1, Hs⟩
  iapply (copy_step m ρ K c _ 2 (cpy3 c)) $$ [HO Hc2 Hs Hb2]
  · isplitr; · iexact HR
    isplitl [HO]; · iexact HO
    isplitl [Hc2]; · iexact Hc2
    isplitl [Hs]; · iexact Hs
    iexact Hb2
  iintro ⟨HO, Hw2, Hs⟩
  iapply (copy_step m ρ K c _ 3 (cpy4 c)) $$ [HO Hc3 Hs Hb3]
  · isplitr; · iexact HR
    isplitl [HO]; · iexact HO
    isplitl [Hc3]; · iexact Hc3
    isplitl [Hs]; · iexact Hs
    iexact Hb3
  iintro ⟨HO, Hw3, Hs⟩
  iapply (copy_step m ρ K c _ 4 (cpy5 c)) $$ [HO Hc4 Hs Hb4]
  · isplitr; · iexact HR
    isplitl [HO]; · iexact HO
    isplitl [Hc4]; · iexact Hc4
    isplitl [Hs]; · iexact Hs
    iexact Hb4
  iintro ⟨HO, Hw4, Hs⟩
  iapply (copy_step m ρ K c _ 5 (cpy6 c)) $$ [HO Hc5 Hs Hb5]
  · isplitr; · iexact HR
    isplitl [HO]; · iexact HO
    isplitl [Hc5]; · iexact Hc5
    isplitl [Hs]; · iexact Hs
    iexact Hb5
  iintro ⟨HO, Hw5, Hs⟩
  iapply (copy_step m ρ K c _ 6 (cpy7 c)) $$ [HO Hc6 Hs Hb6]
  · isplitr; · iexact HR
    isplitl [HO]; · iexact HO
    isplitl [Hc6]; · iexact Hc6
    isplitl [Hs]; · iexact Hs
    iexact Hb6
  iintro ⟨HO, Hw6, Hs⟩
  ihave HO := (Entails.of_eq (show (owesE c (owedXfer c ((6 : Fin 7).val + 1)) : sProp 𝕄) = owesE c 0 from congrArg _ (owedXfer_seven c))) $$ HO
  iapply (waits_step m ρ K c 0) $$ [HO Hp0 Hw0 Hv0]
  · isplitr; · iexact HR
    isplitl [HO]; · iexact HO
    isplitl [Hp0]; · iexact Hp0
    isplitl [Hw0]; · iexact Hw0
    iexact Hv0
  iintro ⟨HO, Hz0, Hq0, Hs0⟩
  iapply (waits_step m ρ K c 1) $$ [HO Hp1 Hw1 Hv1]
  · isplitr; · iexact HR
    isplitl [HO]; · iexact HO
    isplitl [Hp1]; · iexact Hp1
    isplitl [Hw1]; · iexact Hw1
    iexact Hv1
  iintro ⟨HO, Hz1, Hq1, Hs1⟩
  iapply (waits_step m ρ K c 2) $$ [HO Hp2 Hw2 Hv2]
  · isplitr; · iexact HR
    isplitl [HO]; · iexact HO
    isplitl [Hp2]; · iexact Hp2
    isplitl [Hw2]; · iexact Hw2
    iexact Hv2
  iintro ⟨HO, Hz2, Hq2, Hs2⟩
  iapply (waits_step m ρ K c 3) $$ [HO Hp3 Hw3 Hv3]
  · isplitr; · iexact HR
    isplitl [HO]; · iexact HO
    isplitl [Hp3]; · iexact Hp3
    isplitl [Hw3]; · iexact Hw3
    iexact Hv3
  iintro ⟨HO, Hz3, Hq3, Hs3⟩
  iapply (waits_step m ρ K c 4) $$ [HO Hp4 Hw4 Hv4]
  · isplitr; · iexact HR
    isplitl [HO]; · iexact HO
    isplitl [Hp4]; · iexact Hp4
    isplitl [Hw4]; · iexact Hw4
    iexact Hv4
  iintro ⟨HO, Hz4, Hq4, Hs4⟩
  iapply (waits_step m ρ K c 5) $$ [HO Hp5 Hw5 Hv5]
  · isplitr; · iexact HR
    isplitl [HO]; · iexact HO
    isplitl [Hp5]; · iexact Hp5
    isplitl [Hw5]; · iexact Hw5
    iexact Hv5
  iintro ⟨HO, Hz5, Hq5, Hs5⟩
  iapply (waits_step m ρ K c 6) $$ [HO Hp6 Hw6 Hv6]
  · isplitr; · iexact HR
    isplitl [HO]; · iexact HO
    isplitl [Hp6]; · iexact Hp6
    isplitl [Hw6]; · iexact Hw6
    iexact Hv6
  iintro ⟨HO, Hz6, Hq6, Hs6⟩
  ihave Hs := (slot_part 6 c 0 (slots m ρ c)).2 $$ [Hq6 Hs]
  · isplitl [Hq6]; · iexact Hq6
    iexact Hs
  ihave Hs := (slot_part 5 c 0 (slots m ρ c)).2 $$ [Hq5 Hs]
  · isplitl [Hq5]; · iexact Hq5
    iexact Hs
  ihave Hs := (slot_part 4 c 0 (slots m ρ c)).2 $$ [Hq4 Hs]
  · isplitl [Hq4]; · iexact Hq4
    iexact Hs
  ihave Hs := (slot_part 3 c 0 (slots m ρ c)).2 $$ [Hq3 Hs]
  · isplitl [Hq3]; · iexact Hq3
    iexact Hs
  ihave Hs := (slot_part 2 c 0 (slots m ρ c)).2 $$ [Hq2 Hs]
  · isplitl [Hq2]; · iexact Hq2
    iexact Hs
  ihave Hs := (slot_part 1 c 0 (slots m ρ c)).2 $$ [Hq1 Hs]
  · isplitl [Hq1]; · iexact Hq1
    iexact Hs
  ihave Hs := (slot_part 0 c 0 (slots m ρ c)).2 $$ [Hq0 Hs]
  · isplitl [Hq0]; · iexact Hq0
    iexact Hs
  iapply (load_step m ρ c 0 (rem 0)) $$ Hs; iintro Hs
  iapply (load_step m ρ c (Fin.succ (0 : Fin 7)) fullShare) $$ Hs0; iintro Hs0
  iapply (load_step m ρ c (Fin.succ (1 : Fin 7)) fullShare) $$ Hs1; iintro Hs1
  iapply (load_step m ρ c (Fin.succ (2 : Fin 7)) fullShare) $$ Hs2; iintro Hs2
  iapply (load_step m ρ c (Fin.succ (3 : Fin 7)) fullShare) $$ Hs3; iintro Hs3
  iapply (load_step m ρ c (Fin.succ (4 : Fin 7)) fullShare) $$ Hs4; iintro Hs4
  iapply (load_step m ρ c (Fin.succ (5 : Fin 7)) fullShare) $$ Hs5; iintro Hs5
  iapply (load_step m ρ c (Fin.succ (6 : Fin 7)) fullShare) $$ Hs6; iintro Hs6
  iapply (wp_load 𝒱₀ (c : Thread nD τ) none Set.univ (m := oM) (Finset.subset_univ _)) $$ Hout; iintro Hout
  iapply (wp_store 𝒱₀ (c : Thread nD τ) none Set.univ (m := oM) (r := outR) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl, over7, slots_whole, over8]
  isplitl [Hs HzB Hs0 Hs1 Hs2 Hs3 Hs4 Hs5 Hs6 Hz0 Hz1 Hz2 Hz3 Hz4 Hz5 Hz6]
  · isplitl [Hs Hs0 Hs1 Hs2 Hs3 Hs4 Hs5 Hs6]
    · isplitl [Hs]; · iexact Hs
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    isplitl [HzB]; · iexact HzB
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  isplitl [HO]
  · unfold owesE
    icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

end Cert.TopK

end
-- ==== Proof.Launch.lean ====
/-
# The launch on eight devices

From any memory whose counters are zero, every run of the program terminates, with each device's result at the
contents the body computes, its block of `x` as it was and every counter at zero.
-/
module

public import proofs.«01_k».proof.Proof.Body
public import Idealize.ShloMosaic.Lib.Pipeline.CollectiveSegs

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch asks for it -/

def bodyFrom (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
theorem body_ok (c : Dev nD) : BodyObligation (dats (F := F) m ρ 0 c) (defs₀ (F := F)) 𝒱₀ () Set.univ := fun t => by
  rw [fin_N t]
  rw [bigSep_W0, bigSep_W0]
  simp only [owns_whole_eq]
  show bodyFrom m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyFrom Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      isplitl [Hrest] <;> iassumption
    isplitl [Ho]; · iexact Ho
    isplitl [Hx] <;> iassumption
  · iintro H; iexact H

/-! ## The cells and the duty tokens minted for them -/

theorem ownSemFacts : Pipeline.OwnSemFacts cfg0.spec osem := by decide

theorem share_eq (c : Dev nD) (w : Fin cfg0.W) : (dats m ρ 0 c).share w = fullShare := by unfold Dat.share; split <;> rfl

theorem csem_inj (x y : Cel) (h : csem x = csem y) : x = y := by
  rcases x with _ | o <;> rcases y with _ | o'
  · rfl
  · exact absurd h.symm (osem_ne_bar o')
  · exact absurd h (osem_ne_bar o)
  · exact congrArg Sum.inr (dsem_inj o o' (SemLoc.dma.inj h))

theorem kcell_inj : Function.Injective (kcell : Dev nD × Cel → GSem nD τ sig) := by
  rintro ⟨c, k⟩ ⟨c', k'⟩ h
  have h1 : c = c' := congrArg (fun g : GSem nD τ sig => g.1.1) h
  have h2 : k = k' := csem_inj k k' (congrArg Prod.snd h)
  rw [h1, h2]

def allCells : Finset (GSem nD τ sig) := Finset.univ.map ⟨kcell, kcell_inj⟩

/-- A device's duty tokens: seven of its barrier, one of each of its own counters. -/
abbrev tokOf (x : Dev nD × (Fin 7 ⊕ Own)) : GSem nD τ sig × ℕ × Fin 7 := match x.2 with
  | .inl k => (barCell x.1, 0, k) | .inr o => (ownCell x.1 o, 0, 0)

theorem tokOf_inj : Function.Injective tokOf := by
  rintro ⟨c, j⟩ ⟨c', j'⟩ h
  have h1 : c = c' := by
    have := congrArg (fun x : GSem nD τ sig × ℕ × Fin 7 => x.1.1.1) h
    rcases j with k | o <;> rcases j' with k' | o' <;> exact this
  subst h1
  have h2 := congrArg (fun x : GSem nD τ sig × ℕ × Fin 7 => x.1.2) h
  have h3 := congrArg (fun x : GSem nD τ sig × ℕ × Fin 7 => x.2.2) h
  rcases j with k | o <;> rcases j' with k' | o'
  · have : k = k' := h3
    rw [this]
  · exact absurd (show SemLoc.reg barS = osem o' from h2).symm (osem_ne_bar o')
  · exact absurd (show osem o = SemLoc.reg barS from h2) (osem_ne_bar o)
  · rw [dsem_inj o o' (SemLoc.dma.inj (show osem o = osem o' from h2))]

def allToks : Finset (GSem nD τ sig × ℕ × Fin 7) := Finset.univ.map ⟨tokOf, tokOf_inj⟩

def u₀ : UU :=
  (initOf (Pipeline.cells cfgs cellOf_inj) (Pipeline.launchToks cfgs cellOf_inj), initOf allCells allToks)

/-- The duty tokens of device `c`'s own counters. -/
def toks (c : Dev nD) : sProp 𝕄 :=
  iprop((bigSep Finset.univ fun k : Fin 7 => dutyTok ER (barCell c) 0 k)
    ∗ (bigSep Finset.univ fun k : Fin 7 => dutyTok ER (sendCell c k) 0 0) ∗ bigSep Finset.univ fun k : Fin 7 => dutyTok ER (recvCell c k) 0 0)

/-- What the launch deals device `c`, and what the common step makes of it. -/
def G (c : Dev nD) : sProp 𝕄 :=
  iprop((bigSep Finset.univ fun k : Cel => roundState ER (exch m ρ) (kcell (c, k)) 0)
    ∗ (bigSep Finset.univ fun k : Cel => iprop(atPos ER (kcell (c, k)) 0 ∅ 0 ∗ reached ER (kcell (c, k)) 0)) ∗ toks c)
def G' (c : Dev nD) : sProp 𝕄 := iprop(∃ K, records m ρ K ∗ linear c)

omit [FloatOps F] in
theorem over_cel (Φ : Cel → sProp 𝕄) :
    bigSep Finset.univ Φ = iprop(Φ (.inl ()) ∗ (bigSep Finset.univ fun k : Fin 7 => Φ (.inr (.inl k))) ∗ bigSep Finset.univ fun k : Fin 7 => Φ (.inr (.inr k))) := by
  rw [bigSep_univ_sum, bigSep_univ_sum, bigSep_univ_eq_bigSepL [()] (by decide) (by decide), bigSepL_singleton]; rfl

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cel => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (exch m ρ) allCells allToks) $$ HX with ⟨Hst, Hr, Hat, Htok⟩
  imodintro
  ihave Hst' := (Entails.of_eq (hX fun g => roundState ER (exch m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k : Fin 7 => semVal (sendCell c k) 0) ∗ bigSep Finset.univ fun k : Fin 7 => semVal (recvCell c k) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-- One device's counters become shared, all at round 0. -/
theorem share_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exch m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (show iprop(Pipeline.ownSems0 (Ix := Unit) (Name := ℕ) (U := UU) (Lvl := ℕ) (Val := Elt F) (τ := τ) osem c ∗ unscopedSems0 c)
      ⊢ (bigSep Finset.univ fun k : Cel => semVal (kcell (c, k)) 0 : sProp 𝕄) from by
    rw [ownSems0_eq, unscopedSems0_eq, over_cel]
    iintro ⟨H, HB⟩
    isplitl [HB]; · iexact HB
    iexact H) $$ [Hos Hus]
  · isplitl [Hos] <;> iassumption
  imod (show iprop((bigSep Finset.univ fun k : Cel => semVal (kcell (c, k)) 0) ∗ bigSep Finset.univ fun k : Cel => roundState ER (exch m ρ) (kcell (c, k)) 0)
      ⊢ (|={Set.univ}=> bigSep Finset.univ fun k => iprop(∃ κ : ℕ, cellInv ER (exch m ρ) κ (kcell (c, k))) : sProp 𝕄) from by
        rw [← bigSep_sep']
        exact (bigSep_mono fun k _ => (Rounds.body_intro ER (exch m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens a device pays with: its partners' barrier and receive tokens, its own send tokens. -/
def payToks (c : Dev nD) : sProp 𝕄 :=
  iprop((bigSep Finset.univ fun k => sigKit c k) ∗ bigSep Finset.univ fun k => cpyKit c k)

omit [FloatOps F] in
/-- A family of resources, one for each device and partner, dealt to the partners. -/
theorem deal (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (peer k c) k := by
  have swap (Ψ : Dev nD → Fin 7 → sProp 𝕄) : (bigSep Finset.univ fun c : Dev nD => bigSep Finset.univ fun k : Fin 7 => Ψ c k)
      = bigSep Finset.univ fun k : Fin 7 => bigSep Finset.univ fun c : Dev nD => Ψ c k := by
    rw [← bigSep_univ_prod (fun x : Dev nD × Fin 7 => Ψ x.1 x.2), ← bigSep_univ_prod (fun x : Fin 7 × Dev nD => Ψ x.2 x.1)]
    exact bigSep_univ_equiv (Equiv.prodComm (Fin 7) (Dev nD)) fun x : Dev nD × Fin 7 => Ψ x.1 x.2
  rw [swap, swap (fun c k => Φ (peer k c) k)]
  exact bigSep_congr fun k _ => bigSep_univ_equiv (peerEquiv k) (fun c => Φ c k)

omit [FloatOps F] in
theorem toks_dealt : (bigSep Finset.univ fun c : Dev nD => (toks c : sProp 𝕄)) ⊢ bigSep Finset.univ fun c : Dev nD => payToks c := by
  unfold toks payToks sigKit cpyKit
  simp only [bigSep_sep']
  rw [deal (fun c k => dutyTok ER (barCell c) 0 k), deal (fun c k => dutyTok ER (recvCell c k) 0 0)]

omit [FloatOps F] in
theorem with_common {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_of (c : Dev nD) : iprop((bigSep Finset.univ fun k : Cel => atPos ER (kcell (c, k)) 0 ∅ 0) ∗ payToks c) ⊢ (linear c : sProp 𝕄) := by
  unfold payToks linear posKit
  rw [over_cel, bigSep_sep']
  iintro ⟨⟨HB, Hrest⟩, Hs, Hc⟩
  isplitl [HB]; · iexact HB
  isplitl [Hrest]; · iexact Hrest
  isplitl [Hs] <;> iassumption

theorem regroup :
    (bigSep Finset.univ fun c : Dev nD => iprop((bigSep Finset.univ fun k => iprop(∃ κ : ℕ, cellInv ER (exch m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun x : Dev nD × Cel => iprop(∃ κ : ℕ, cellInv ER (exch m ρ) κ (kcell x))),
    bigSep_congr (s := Finset.univ) (fun (c : Dev nD) _ => bigSep_sep' Finset.univ (fun k : Cel => (atPos ER (kcell (c, k)) 0 ∅ 0 : sProp 𝕄)) (fun k => reached ER (kcell (c, k)) 0)),
    bigSep_sep', ← bigSep_univ_prod (fun x : Dev nD × Cel => (reached ER (kcell x) 0 : sProp 𝕄))]
  iintro ⟨HI, ⟨Hat, #HR⟩, Htok⟩
  ihave HK := (BI.bigSep_exists_pi Finset.univ (fun (x : Dev nD × Cel) (κ : ℕ) => (cellInv ER (exch m ρ) κ (kcell x) : sProp 𝕄))) $$ HI
  icases HK with ⟨%K, #HI⟩
  ihave Htk := (toks_dealt (F := F)) $$ Htok
  iapply (with_common (R := records m ρ K) fun c _ => show iprop(records m ρ K ∗ linear c) ⊢ G' m ρ c from by
    unfold G'; iintro H; iexists K; iexact H)
  isplitr
  · unfold records; isplitl; · iexact HI
    iexact HR
  · iapply ((Entails.of_eq (bigSep_sep' Finset.univ (fun c : Dev nD => bigSep Finset.univ fun k : Cel => (atPos ER (kcell (c, k)) 0 ∅ 0 : sProp 𝕄)) payToks).symm).trans
      (bigSep_mono fun c _ => linear_of c))
    isplitl [Hat]; · iexact Hat
    iexact Htk

theorem common_step : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => share_cells m ρ c).trans (bigSep_fupd _ _)).trans (BI.fupd_mono (regroup m ρ))

/-! ## The credit handed out at launch -/

theorem barCell_eq {a b : Dev nD} (h : barCell a = barCell b) : a = b := congrArg (fun g : GSem nD τ sig => g.1.1) h
theorem ownCell_eq {a b : Dev nD} {o o' : Own} (h : ownCell a o = ownCell b o') : a = b ∧ o = o' :=
  ⟨congrArg (fun g : GSem nD τ sig => g.1.1) h, dsem_inj o o' (SemLoc.dma.inj (congrArg (fun g : GSem nD τ sig => g.2) h))⟩

theorem eq_peer {c d : Dev nD} {k : Fin 7} : c = peer k d ↔ d = peer k c :=
  ⟨fun h => by rw [h, peer_peer], fun h => by rw [h, peer_peer]⟩

theorem owed_bar (d c : Dev nD) : O₀ d (barCell c) () = ∑ k : Fin 7, if d = peer k c then 1 else 0 := by
  unfold O₀
  rw [Pi.add_apply, Finsupp.add_apply]
  have h0 : owedXfer d 0 (barCell c) () = 0 := by
    rcases Nat.eq_zero_or_pos (owedXfer d 0 (barCell c) ()) with h | h
    · exact h
    · obtain ⟨k, hk⟩ := owedXfer_pos h; exact absurd (congrArg Prod.snd hk).symm (osem_ne_bar _)
  rw [h0, Nat.zero_add]
  unfold owedBar
  rw [Finset.sum_apply, Finsupp.finset_sum_apply, show (Finset.univ : Finset (Fin 7)).filter (fun k => 0 ≤ k.val) = Finset.univ by decide]
  refine Finset.sum_congr rfl fun k _ => ?_
  rw [tallyAt_apply]
  by_cases h : d = peer k c
  · rw [if_pos h, if_pos ⟨by rw [h, peer_peer], rfl⟩]
  · rw [if_neg h, if_neg fun h' => h (eq_peer.mp (barCell_eq h'.1))]

theorem owed_recv (d c : Dev nD) (k : Fin 7) : O₀ d (recvCell c k) () = if d = peer k c then N else 0 := by
  unfold O₀
  rw [Pi.add_apply, Finsupp.add_apply]
  have h0 : owedBar d 0 (recvCell c k) () = 0 := by
    rcases Nat.eq_zero_or_pos (owedBar d 0 (recvCell c k) ()) with h | h
    · exact h
    · obtain ⟨j, hj⟩ := owedBar_pos h; exact absurd (congrArg Prod.snd hj) (osem_ne_bar _)
  rw [h0, Nat.add_zero]
  unfold owedXfer
  rw [Finset.sum_apply, Finsupp.finset_sum_apply, show (Finset.univ : Finset (Fin 7)).filter (fun k => 0 ≤ k.val) = Finset.univ by decide,
    Finset.sum_eq_single k]
  · rw [tallyAt_apply]
    by_cases h : d = peer k c
    · rw [if_pos h, if_pos ⟨by rw [h, peer_peer], rfl⟩]
    · rw [if_neg h, if_neg fun h' => h (eq_peer.mp (ownCell_eq h'.1).1)]
  · intro j _ hj
    rw [tallyAt_apply]
    exact if_neg fun h' => hj (Sum.inr.inj (ownCell_eq h'.1).2).symm
  · intro h; exact absurd (Finset.mem_univ k) h

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => Finset.sum_ite_eq' Finset.univ (peer k c) fun _ => 1]
  simp

theorem launch_recv (c : Dev nD) (k : Fin 7) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (peer k c) fun _ => N,
    if_pos (Finset.mem_univ _)]

/-- The semaphores whose credit a device receives at launch. -/
def credSems : Finset (SemLoc sig) := (Finset.univ : Finset (Fin 7)).map ⟨fun k => osem (.inr k), fun k k' h =>
  Sum.inr.inj (dsem_inj _ _ (SemLoc.dma.inj h))⟩

omit [FloatOps F] in
theorem creds_of (c : Dev nD) : (Pipeline.launchCred O₀ c : sProp 𝕄) ⊢ creds c := by
  unfold Pipeline.launchCred creds recvCred
  rw [bigSep_univ_at _ (SemLoc.reg barS), launch_bar]
  refine sep_mono_right ?_
  refine (bigSep_subset (t := credSems) ?_).trans ?_
  · intro sm hsm
    obtain ⟨k, -, rfl⟩ := Finset.mem_map.mp hsm
    exact Finset.mem_erase.mpr ⟨osem_ne_bar _, Finset.mem_univ _⟩
  · unfold credSems
    rw [bigSep_map]
    exact bigSep_mono fun k _ => Entails.of_eq (congrArg (fun T => cred T) (launch_recv c k))

/-! ## The conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_of (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  rw [bigSep_sep']
  iintro ⟨Hr, HzB, Hz⟩
  isplitl [HzB]; · iexact HzB
  isplitl [Hz]; · iexact Hz
  iexists (slots m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a device's arrays hold in the end. -/
def finalA (c : Dev nD) (w : Fin cfg0.W) : Buf (Elt F) ((cfg0.win w).arr.view.loc (c : Thread nD τ)) := (dats m ρ 0 c).arrAt w cfg0.N

def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On eight devices, for any float values, from any memory with zero counters: every weakly fair execution
    terminates, each device's arrays end as `finalA` says and every counter ends at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_ok m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := common_step m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `x` after the run is what it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.TopK

end
-- ==== Proof.Frames.lean ====
/-
# What a run leaves

Every run of the idealized program, and every run of the program itself on bit patterns, terminates with the
argument blocks as they were and every counter at zero; each device's result is then `outAt`.
-/
module

public import proofs.«01_k».proof.Defs
public import proofs.«01_k».proof.Proof.Launch
public import proofs.«01_k».proof.Proof.Gen.Kernel

@[expose] public section

noncomputable section

namespace Cert.TopK

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

/-- The result array after the run is the body's result of this device. -/
theorem finalA_out (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  rw [← h]
  exact (Memref.read_access_unit_zero (Elt F) main_v1 (funext fun a => by fin_cases a <;> decide) (fun a => by fin_cases a <;> decide) _).symm

/-- Device `c`'s block of `x` survives, its result is `outAt`. -/
theorem run_values :
    θ_run defs (onTc (τ := τ) (main (F := F))) (s₀ m ρ) (fun r => ∀ c : Dev nD,
      r.2.mem ((c.tc : Thread nD τ).loc main_v1) = outAt m ρ c
      ∧ r.2.mem ((c.tc : Thread nD τ).loc main_arg0) = m ((c.tc : Thread nD τ).loc main_arg0)) :=
  (θ_run defs _ _).mono (fun _ h c => ⟨(h.1 c (1 : Fin 2)).trans (finalA_out m ρ c), (h.1 c (0 : Fin 2)).trans (finalA_x m ρ c)⟩) (run_main m ρ)

theorem frame_ideal : Cert.quiescent_KernelIdeal := fun m ρ _ =>
  (θ_run Cert.KernelIdeal.defs _ _).mono (fun _ h => ⟨fun c => (h.1 c (0 : Fin 2)).trans (finalA_x m ρ c), h.2⟩) (run_main (F := Ideal) m ρ)

/-- The two programs' tables of kernel bodies are one. -/
theorem bodies_same : Cert.Kernel.defs₀ (F := Bits) = Cert.KernelIdeal.defs₀ (F := Bits) := by
  unfold Cert.Kernel.defs₀ Cert.KernelIdeal.defs₀
  refine congrArg (Defs.onTc (nD := nD) (τ := τ) (sig := sig) (Val := Elt Bits) (Λ := Λ₀)) ?_
  funext l
  fin_cases l
  rfl

theorem frame_kernel : Cert.quiescent_Kernel := by
  intro m ρ _
  have h := (θ_run (Cert.KernelIdeal.defs (F := Bits)) _ _).mono (Q' := fun r => (∀ c : Dev nD,
      r.2.mem ((c.tc : Thread nD τ).loc main_arg0) = m ((c.tc : Thread nD τ).loc main_arg0)) ∧ r.2.sem = fun _ => 0)
    (fun r h => ⟨fun c => (h.1 c (0 : Fin 2)).trans (finalA_x m ρ c), h.2⟩) (run_main (F := Bits) m ρ)
  have e : Cert.Kernel.defs (F := Bits) = Cert.KernelIdeal.defs (F := Bits) :=
    congrArg (Pipeline.defs (pcfgs (F := Bits))) bodies_same
  rw [e]
  exact h

end Cert.TopK

end
-- ==== Proof.RefRun.lean ====
/-
# The reference's run

The reference runs on one device; its run terminates with the argument as it was and no counter changed.
-/
module

public import proofs.«01_k».proof.Defs
public import proofs.«01_k».proof.Proof.Gen.ReferenceIdeal.Run
public import Idealize.ShloMosaic.Lib.Quiescent

@[expose] public section

noncomputable section

namespace Cert.TopK

open Idealize.ShloMosaic Idealize.SL.Sem

theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.TopK

end
-- ==== Proof.Network.lean ====
/-
# The sorting network of the kernel

Eight values, nineteen exchanges: the outcome is the eight values in descending order.
-/
module

public import Idealize.ShloMosaic.Lib.SortNet.Basic
public import Idealize.ShloMosaic.Lib.ValueIdxCore
public import Idealize.ShloMosaic.Lib.Tactic

@[expose] public section

namespace Cert.TopK

open Idealize.ShloMosaic Idealize.ShloMosaic.SortNet

/-- The exchange that leaves the greater of two values at position `a`, the smaller at `b`. -/
abbrev put (a b : Fin 8) (h : b ≠ a := by decide) : Cmpx 8 := ⟨b, a, h⟩

def sort8 : Network 8 :=
  [put 0 1, put 2 3, put 4 5, put 6 7, put 0 2, put 1 3, put 4 6, put 5 7, put 1 2, put 5 6,
   put 0 4, put 1 5, put 2 6, put 3 7, put 2 4, put 3 5, put 1 2, put 3 4, put 5 6]

variable {α : Type} [LinearOrder α]

theorem eight (x : Fin 8 → α) : x = ![x 0, x 1, x 2, x 3, x 4, x 5, x 6, x 7] := by
  funext k; fin_cases k <;> rfl

theorem sort8_bool : ∀ a b c d e f g h : Bool, ∀ k : Fin 7,
    sort8.apply ![a, b, c, d, e, f, g, h] k.succ ≤ sort8.apply ![a, b, c, d, e, f, g, h] k.castSucc := by decide +kernel

/-- The network leaves any eight values descending. -/
theorem sort8_antitone (x : Fin 8 → α) : Antitone (sort8.apply x) :=
  Network.zero_one_on_antitone sort8 (fun _ => True) (fun b _ => by
    rw [eight b]; exact Fin.antitone_iff_succ_le.mpr (sort8_bool _ _ _ _ _ _ _ _)) x fun _ => trivial

/-- The network's outcome written out as the kernel computes it. -/
def net8 (x : Fin 8 → α) : Fin 8 → α :=
  let c0 := max (max (x 0) (x 1)) (max (x 2) (x 3))
  let c1 := min (max (x 0) (x 1)) (max (x 2) (x 3))
  let c2 := max (min (x 0) (x 1)) (min (x 2) (x 3))
  let c3 := min (min (x 0) (x 1)) (min (x 2) (x 3))
  let d0 := max (max (x 4) (x 5)) (max (x 6) (x 7))
  let d1 := min (max (x 4) (x 5)) (max (x 6) (x 7))
  let d2 := max (min (x 4) (x 5)) (min (x 6) (x 7))
  let d3 := min (min (x 4) (x 5)) (min (x 6) (x 7))
  let e1 := max c2 c1
  let e2 := min c2 c1
  let f1 := max d2 d1
  let f2 := min d2 d1
  let g0 := max c0 d0
  let g4 := min c0 d0
  let g1 := max e1 f1
  let g5 := min e1 f1
  let g2 := max e2 f2
  let g6 := min e2 f2
  let g3 := max c3 d3
  let g7 := min c3 d3
  let h2 := max g2 g4
  let h4 := min g2 g4
  let h3 := max g3 g5
  let h5 := min g3 g5
  ![g0, max g1 h2, min g1 h2, max h3 h4, min h3 h4, max h5 g6, min h5 g6, g7]

theorem put_apply (a b : Fin 8) (h : b ≠ a) (v : Fin 8 → α) : (put a b h).apply v
    = fun k => if k = a then max (v a) (v b) else if k = b then min (v a) (v b) else v k := by
  funext k
  by_cases ha : k = a
  · rw [if_pos ha, ha]; exact (Cmpx.apply_hi (put a b h) v).trans (max_comm _ _)
  rw [if_neg ha]
  by_cases hb : k = b
  · rw [if_pos hb, hb]; exact (Cmpx.apply_lo (put a b h) v).trans (min_comm _ _)
  · rw [if_neg hb]; exact Cmpx.apply_other (put a b h) v k hb ha

theorem net8_eq (x : Fin 8 → α) : sort8.apply x = net8 x := by
  simp only [sort8, Network.apply_cons, Network.apply_nil, put_apply]
  funext k
  fin_cases k <;> rfl

theorem net8_antitone (x : Fin 8 → α) : Antitone (net8 x) := net8_eq x ▸ sort8_antitone x

theorem net8_perm (x : Fin 8 → α) : ∃ σ : Equiv.Perm (Fin 8), net8 x = x ∘ σ := net8_eq x ▸ Network.exists_perm sort8 x

end Cert.TopK

end
-- ==== Proof.Rounds.lean ====
/-
# Taking the largest, round by round

Two procedures that emit the largest value of a collection and strike it out: over columns that are sorted, where a
round removes the head of every column that equals the emitted value, and over a plain list, where a round overwrites
every entry that equals it. The second emits the largest entries in order when those are all different, and the first emits
every entry that few others exceed.
-/
module

public import Idealize.ShloMosaic.Lib.ValueIdxCore
public import Idealize.ShloMosaic.Lib.Tactic

@[expose] public section

namespace Cert.TopK

variable {α : Type} [LinearOrder α] {ι : Type} [Fintype ι] [Nonempty ι]

/-- The greatest value of a finite family. -/
noncomputable def best (f : ι → α) : α := Finset.univ.sup' Finset.univ_nonempty f

theorem le_best (f : ι → α) (l : ι) : f l ≤ best f := Finset.le_sup' f (Finset.mem_univ l)

theorem best_mem (f : ι → α) : ∃ l, f l = best f := by
  obtain ⟨l, -, h⟩ := Finset.exists_mem_eq_sup' Finset.univ_nonempty f
  exact ⟨l, h.symm⟩

theorem best_eq {f : ι → α} {v : α} (hv : ∃ l, f l = v) (h : ∀ l, f l ≤ v) : best f = v := by
  obtain ⟨l, hl⟩ := hv
  exact le_antisymm (Finset.sup'_le _ _ fun l _ => h l) (hl ▸ le_best f l)

/-! ## Sorted columns -/

/-- One round over columns: every column whose head is the best moves up by one. -/
noncomputable def popped (q : ι → ℕ → α) : ι → ℕ → α :=
  fun l j => if q l 0 = best (fun l => q l 0) then q l (j + 1) else q l j

/-- How many entries of column `l` the first `r` rounds have removed. -/
noncomputable def taken (q : ι → ℕ → α) : ℕ → ι → ℕ
  | 0, _ => 0
  | r + 1, l => if q l (taken q r l) = best (fun l => q l (taken q r l)) then taken q r l + 1 else taken q r l

/-- The value emitted in round `r`. -/
noncomputable def emitted (q : ι → ℕ → α) (r : ℕ) : α := best fun l => q l (taken q r l)

theorem popped_iterate (q : ι → ℕ → α) (r : ℕ) : popped^[r] q = fun l j => q l (taken q r l + j) := by
  induction r with
  | zero => funext l j; show q l j = q l (0 + j); rw [Nat.zero_add]
  | succ r ih =>
    rw [Function.iterate_succ_apply', ih]
    funext l j
    unfold popped
    simp only [taken, Nat.add_zero]
    split
    · rw [Nat.add_assoc, Nat.add_comm 1 j]
    · rfl

theorem taken_le (q : ι → ℕ → α) (r : ℕ) (l : ι) : taken q r l ≤ r := by
  induction r with
  | zero => exact Nat.le_refl 0
  | succ r ih => unfold taken; split <;> omega

/-- What a round emits is an entry. -/
theorem emitted_mem (q : ι → ℕ → α) (r : ℕ) : ∃ l j, j ≤ r ∧ emitted q r = q l j := by
  obtain ⟨l, hl⟩ := best_mem fun l => q l (taken q r l)
  exact ⟨l, taken q r l, taken_le q r l, hl.symm⟩

/-- While an entry has not been emitted it is still in its column, what has been removed is greater, and each round has
    removed at least one entry. -/
theorem taken_before (q : ι → ℕ → α) (hq : ∀ l, Antitone (q l)) (l₀ : ι) (j₀ r : ℕ) (h : ∀ s < r, emitted q s ≠ q l₀ j₀) :
    taken q r l₀ ≤ j₀ ∧ (∀ l j, j < taken q r l → q l₀ j₀ < q l j) ∧ r ≤ ∑ l, taken q r l := by
  induction r with
  | zero => exact ⟨Nat.zero_le _, fun l j hj => absurd hj (Nat.not_lt_zero j), Nat.zero_le _⟩
  | succ r ih =>
    obtain ⟨h1, h2, h3⟩ := ih fun s hs => h s (Nat.lt_succ_of_lt hs)
    have hr : emitted q r ≠ q l₀ j₀ := h r (Nat.lt_succ_self r)
    have hge : q l₀ j₀ < emitted q r :=
      lt_of_le_of_ne ((hq l₀ h1).trans (le_best (fun l => q l (taken q r l)) l₀)) (Ne.symm hr)
    refine ⟨?_, ?_, ?_⟩
    · unfold taken
      split
      · rename_i he
        refine Nat.succ_le_of_lt (lt_of_le_of_ne h1 fun h' => hr ?_)
        rw [← h']; exact he.symm
      · exact h1
    · intro l j hj
      unfold taken at hj
      split at hj
      · rename_i he
        rcases Nat.lt_succ_iff_lt_or_eq.mp hj with hj' | rfl
        · exact h2 l j hj'
        · rw [he]; exact hge
      · exact h2 l j hj
    · obtain ⟨l, hl⟩ := best_mem fun l => q l (taken q r l)
      have hs : ∑ l, taken q r l < ∑ l, taken q (r + 1) l := by
        refine Finset.sum_lt_sum (fun k _ => ?_) ⟨l, Finset.mem_univ l, ?_⟩
        · simp only [taken]; split <;> omega
        · simp only [taken]; rw [if_pos hl]; exact Nat.lt_succ_self _
      omega

/-- An entry that at most `n` entries of the columns exceed is emitted within `n + 1` rounds. -/
theorem emitted_of_few (q : ι → ℕ → α) (hq : ∀ l, Antitone (q l)) (l₀ : ι) (j₀ n : ℕ)
    (few : ((Finset.univ : Finset (ι × Fin (n + 1))).filter fun p => q l₀ j₀ < q p.1 p.2).card ≤ n) :
    ∃ r, r < n + 1 ∧ emitted q r = q l₀ j₀ := by
  by_contra hne
  obtain ⟨-, h2, h3⟩ := taken_before q hq l₀ j₀ (n + 1) fun s hs he => hne ⟨s, hs, he⟩
  have hsub : ((Finset.univ : Finset (ι × Fin (n + 1))).filter fun p => p.2.val < taken q (n + 1) p.1)
      ⊆ (Finset.univ : Finset (ι × Fin (n + 1))).filter fun p => q l₀ j₀ < q p.1 p.2 := by
    intro p hp
    exact Finset.mem_filter.mpr ⟨Finset.mem_univ p, h2 p.1 p.2 (Finset.mem_filter.mp hp).2⟩
  have hcard : ((Finset.univ : Finset (ι × Fin (n + 1))).filter fun p => p.2.val < taken q (n + 1) p.1).card
      = ∑ l, taken q (n + 1) l := by
    rw [Finset.card_filter, Fintype.sum_prod_type]
    refine Finset.sum_congr rfl fun l _ => ?_
    rw [← Finset.card_filter]
    have hle := taken_le q (n + 1) l
    rw [show ((Finset.univ : Finset (Fin (n + 1))).filter fun j => j.val < taken q (n + 1) l).card
      = min (n + 1) (taken q (n + 1) l) from by simp [Fin.card_filter_val_lt]]
    omega
  have := Finset.card_le_card hsub
  omega

/-! ## A plain list -/

/-- One round over a list: every entry equal to the best becomes the least value. -/
noncomputable def struck [OrderBot α] (w : ι → α) : ι → α := fun a => if w a = best w then ⊥ else w a

/-- If the list holds each of `V 0 > … > V j`, and nothing else at or above `V j`, round `i ≤ j` emits `V i`. -/
theorem best_struck [OrderBot α] (C : ι → α) (V : ℕ → α) (j : ℕ) (hV : ∀ i i', i < i' → i' ≤ j → V i' < V i)
    (hmem : ∀ i, i ≤ j → ∃ a, C a = V i) (hlow : ∀ a, (∃ i, i ≤ j ∧ C a = V i) ∨ C a < V j) (i : ℕ) (hi : i ≤ j) :
    best (struck^[i] C) = V i := by
  have key : ∀ i, i ≤ j + 1 → (∀ a, struck^[i] C a = C a ∨ struck^[i] C a = ⊥)
      ∧ (∀ a k, i ≤ k → k ≤ j → C a = V k → struck^[i] C a = C a) ∧ (∀ a k, k < i → C a = V k → struck^[i] C a = ⊥)
      ∧ (∀ k, k < i → best (struck^[k] C) = V k) := by
    intro i
    induction i with
    | zero => exact fun _ => ⟨fun a => Or.inl rfl, fun a k _ _ _ => rfl, fun a k hk => absurd hk (Nat.not_lt_zero k), fun k hk => absurd hk (Nat.not_lt_zero k)⟩
    | succ i ih =>
      intro hi
      obtain ⟨h1, h2, h3, h4⟩ := ih (by omega)
      have hb : best (struck^[i] C) = V i := by
        obtain ⟨a, ha⟩ := hmem i (by omega)
        refine best_eq ⟨a, (h2 a i (le_refl i) (by omega) ha).trans ha⟩ fun l => ?_
        rcases h1 l with e | e
        · rcases hlow l with ⟨k, hk, hl⟩ | hl
          · rcases Nat.lt_or_ge k i with hki | hki
            · rw [h3 l k hki hl]; exact bot_le
            · rw [e, hl]
              rcases Nat.eq_or_lt_of_le hki with rfl | hlt
              · exact le_refl _
              · exact (hV i k hlt hk).le
          · rw [e]
            refine hl.le.trans ?_
            rcases Nat.eq_or_lt_of_le (Nat.lt_succ_iff.mp hi) with rfl | hlt
            · exact le_refl _
            · exact (hV i j hlt (le_refl j)).le
        · rw [e]; exact bot_le
      rw [Function.iterate_succ_apply']
      refine ⟨fun a => ?_, fun a k hk hkj ha => ?_, fun a k hk ha => ?_, fun k hk => ?_⟩
      · unfold struck
        split
        · exact Or.inr rfl
        · exact h1 a
      · unfold struck
        have hne : struck^[i] C a ≠ best (struck^[i] C) := by
          rw [h2 a k (by omega) hkj ha, hb, ha]
          exact ne_of_lt (hV i k (by omega) hkj)
        exact (if_neg hne).trans (h2 a k (by omega) hkj ha)
      · show (if struck^[i] C a = best (struck^[i] C) then ⊥ else struck^[i] C a) = ⊥
        rcases Nat.lt_succ_iff_lt_or_eq.mp hk with hk' | rfl
        · rw [h3 a k hk' ha, ite_self]
        · exact if_pos (((h2 a k (le_refl k) (by omega) ha).trans ha).trans hb.symm)
      · rcases Nat.lt_succ_iff_lt_or_eq.mp hk with hk' | rfl
        · exact h4 k hk'
        · exact hb
  exact (key (i + 1) (by omega)).2.2.2 i (Nat.lt_succ_self i)

/-- The values above the least, each once. -/
def above [OrderBot α] (w : ι → α) : Finset α := (Finset.univ.image w).erase ⊥

theorem above_struck [OrderBot α] (w : ι → α) : above (struck w) ⊆ (above w).erase (best w) := by
  intro v hv
  obtain ⟨h0, hv⟩ := Finset.mem_erase.mp hv
  obtain ⟨a, -, rfl⟩ := Finset.mem_image.mp hv
  unfold struck at h0 ⊢
  by_cases h : w a = best w
  · rw [if_pos h] at h0; exact absurd rfl h0
  · rw [if_neg h] at h0 ⊢
    exact Finset.mem_erase.mpr ⟨h, Finset.mem_erase.mpr ⟨h0, Finset.mem_image_of_mem w (Finset.mem_univ a)⟩⟩

/-- Every round strikes off one of the values above the least, while there are any. -/
theorem card_above_struck [OrderBot α] (w : ι → α) : (above (struck w)).card ≤ (above w).card - 1 := by
  refine (Finset.card_le_card (above_struck w)).trans ?_
  by_cases h : best w = ⊥
  · have : above w = ∅ := Finset.eq_empty_of_forall_notMem fun v hv => by
      obtain ⟨h0, hv⟩ := Finset.mem_erase.mp hv
      obtain ⟨a, -, rfl⟩ := Finset.mem_image.mp hv
      exact h0 (le_bot_iff.mp ((le_best w a).trans h.le))
    rw [this]; simp
  · obtain ⟨a, ha⟩ := best_mem w
    exact (Finset.card_erase_of_mem (Finset.mem_erase.mpr ⟨h, ha ▸ Finset.mem_image_of_mem w (Finset.mem_univ a)⟩)).le

/-- When at most `n` different values lie above the least, `n` rounds leave only the least. -/
theorem best_struck_bot [OrderBot α] (C : ι → α) (V : ℕ → α) (n : ℕ) (h : ∀ a, C a = ⊥ ∨ ∃ i, i < n ∧ C a = V i) :
    best (struck^[n] C) = ⊥ := by
  have few (k : ℕ) : (above (struck^[k] C)).card ≤ n - k := by
    induction k with
    | zero =>
      refine (Finset.card_le_card (t := (Finset.range n).image V) fun v hv => ?_).trans (Finset.card_image_le.trans (by simp))
      obtain ⟨h0, hv⟩ := Finset.mem_erase.mp hv
      obtain ⟨a, -, rfl⟩ := Finset.mem_image.mp hv
      rcases h a with hb | ⟨i, hi, hv⟩
      · exact absurd hb h0
      · exact Finset.mem_image.mpr ⟨i, Finset.mem_range.mpr hi, hv.symm⟩
    | succ k ih =>
      rw [Function.iterate_succ_apply']
      exact (card_above_struck _).trans (by omega)
  have none : above (struck^[n] C) = ∅ := Finset.card_eq_zero.mp (Nat.le_zero.mp ((few n).trans (by omega)))
  by_contra hb
  obtain ⟨a, ha⟩ := best_mem (struck^[n] C)
  have : best (struck^[n] C) ∈ above (struck^[n] C) :=
    Finset.mem_erase.mpr ⟨hb, ha ▸ Finset.mem_image_of_mem _ (Finset.mem_univ a)⟩
  rw [none] at this
  exact absurd this (Finset.notMem_empty _)

end Cert.TopK

end
-- ==== Proof.Stage.lean ====
/-
# What one device finds in its block

In every row the body sorts each lane's eight values, then emits eight times the largest of the lanes' heads. Read row by
row this is the procedure on sorted columns of Proof/Rounds.lean.
-/
module

public import proofs.«01_k».proof.Proof.Slots
public import proofs.«01_k».proof.Proof.Network
public import proofs.«01_k».proof.Proof.Rounds
public import Mathlib.Data.Finset.Fold
public import Idealize.ShloMosaic.PureOps.Ideal
public import Idealize.ShloMosaic.PureOps.Ideal.Laws
public import Idealize.ShloMosaic.Lib.Pipeline.Value
public import Idealize.ShloMosaic.Lib.ValueLayout
public import Idealize.ShloMosaic.Lib.ValueLayoutCasts

@[expose] public section

noncomputable section

namespace Cert.TopK

open Cert.KernelIdeal Cert.KernelIdeal.Gen

open Idealize.ShloMosaic Idealize.ShloMosaic.ValueIdx

/-- A plane: 128 lanes of every row. -/
abbrev Plane := FVec Ideal S256x128 .f32

/-- The bit pattern of minus infinity is the least value. -/
theorem least_bits : (FloatOps.ofBits .f32 0xFF800000#32 : Ideal .f32) = (⊥ : EReal) := by
  show Ideal.ofBits .f32 0xFF800000#32 = ⊥
  simp [Ideal.ofBits, Ideal.ieee]

/-- The maximum over the lanes, folded from the least value, is the best of the row. -/
theorem fold_max_eq_best {n : ℕ} (f : Fin (n + 1) → EReal) : (Finset.univ : Finset (Fin (n + 1))).fold max (⊥ : EReal) f = best f := by
  apply le_antisymm
  · exact (Finset.fold_max_le _).mpr ⟨bot_le, fun l _ => le_best f l⟩
  · obtain ⟨l, hl⟩ := best_mem f
    exact (Finset.le_fold_max _).mpr (Or.inr ⟨l, Finset.mem_univ l, hl.ge⟩)

/-- A row's maximum over its columns. -/
theorem rowMax_at {n : ℕ} (h : (⟨2, ![256, n + 1]⟩ : Shape).Reduces [1] S256) (v : FVec Ideal ⟨2, ![256, n + 1]⟩ .f32)
    (hφ : FKind.Formats .f32) (hacc : (0xFF800000#32 : BitVec 32) = FKind.maximumf.neutral .f32 hφ) (r : Fin 256) :
    multiReduction .maximumf [1] S256 v 0xFF800000#32 h hφ hacc (ix1 r) = best fun l : Fin (n + 1) => v (ix2 r l) := by
  rw [Ideal.multiReduction_maximumf_single, least_bits]
  refine (fold_max_eq_best (n := n) _).trans ?_
  refine congrArg best (funext fun l => congrArg v ?_)
  funext b
  match b with
  | ⟨0, _⟩ => exact Fin.ext (h.lift_val _ _ _)
  | ⟨1, _⟩ => exact Fin.ext (h.lift_val _ _ _)

/-- A column broadcast along the rows. -/
theorem column_at {n : ℕ} (v : FVec Ideal S256x1 .f32) (h : S256x1.Broadcasts ⟨2, ![256, n]⟩) (r : Fin 256) (l : Fin n) :
    broadcastTo ⟨2, ![256, n]⟩ v h (ix2 r l) = v (ix2 r 0) :=
  broadcastTo_apply v h _ _ fun a => by
    match a with
    | ⟨0, _⟩ => rfl
    | ⟨1, _⟩ => rfl

/-- The lanes' heads' maximum, row by row. -/
theorem tops_at (h : Plane) (r : Fin 256) (u : Fin 1) : k0_pay47 h (ix2 r u) = best fun l : Fin 128 => h (ix2 r l) := by
  unfold k0_pay47
  exact (shapeCast_a_a1_apply _ _ r u).trans (rowMax_at (n := 127) _ h _ _ r)

/-- A choice by equality with the row's maximum. -/
theorem choose_at {n : ℕ} (v w a b : FVec Ideal ⟨2, ![256, n]⟩ .f32) (i : (⟨2, ![256, n]⟩ : Shape).Idx) :
    select (cmpf .oeq v w) a b i = if v i = w i then a i else b i := by
  show (if BitVec.ofBool (decide (v i = w i)) = 1#1 then a i else b i) = _
  by_cases h : v i = w i
  · rw [if_pos h, decide_eq_true h]; rfl
  · rw [if_neg h, decide_eq_false h]; rfl

/-- One round on the planes: every lane whose head is its row's maximum moves up. -/
def popV (P : ℕ → Plane) : ℕ → Plane := fun j => select (k0_pay48 (P 0)) (P (j + 1)) (P j)

/-- Row `r` of the planes as columns. -/
def cols (P : ℕ → Plane) (r : Fin 256) : Fin 128 → ℕ → EReal := fun l j => P j (ix2 r l)

theorem cols_popV (P : ℕ → Plane) (r : Fin 256) : cols (popV P) r = popped (cols P r) := by
  funext l j
  unfold cols popV k0_pay48
  refine (choose_at _ _ _ _ _).trans ?_
  rw [column_at, tops_at]
  rfl

theorem cols_iterate (P : ℕ → Plane) (r : Fin 256) (n : ℕ) : cols (popV^[n] P) r = popped^[n] (cols P r) := by
  induction n with
  | zero => rfl
  | succ n ih => rw [Function.iterate_succ_apply', Function.iterate_succ_apply', cols_popV, ih]

/-- The planes after the sorting network. -/
def sortedPlanes (p0 p1 p2 p3 p4 p5 p6 p7 : Plane) : ℕ → Plane
  | 0 => k0_pay30 p0 p1 p2 p3 p4 p5 p6 p7
  | 1 => k0_pay41 (k0_pay31 p0 p1 p2 p3 p4 p5 p6 p7) (k0_pay32 p0 p1 p2 p3 p4 p5 p6 p7) (k0_pay34 p0 p1 p2 p3 p4 p5 p6 p7)
  | 2 => k0_pay42 (k0_pay31 p0 p1 p2 p3 p4 p5 p6 p7) (k0_pay32 p0 p1 p2 p3 p4 p5 p6 p7) (k0_pay34 p0 p1 p2 p3 p4 p5 p6 p7)
  | 3 => k0_pay43 (k0_pay21 p0 p1 p2 p3) (k0_pay25 p4 p5 p6 p7) (k0_pay31 p0 p1 p2 p3 p4 p5 p6 p7) (k0_pay33 p0 p1 p2 p3 p4 p5 p6 p7) (k0_pay34 p0 p1 p2 p3 p4 p5 p6 p7)
  | 4 => k0_pay44 (k0_pay21 p0 p1 p2 p3) (k0_pay25 p4 p5 p6 p7) (k0_pay31 p0 p1 p2 p3 p4 p5 p6 p7) (k0_pay33 p0 p1 p2 p3 p4 p5 p6 p7) (k0_pay34 p0 p1 p2 p3 p4 p5 p6 p7)
  | 5 => k0_pay45 (k0_pay21 p0 p1 p2 p3) (k0_pay25 p4 p5 p6 p7) (k0_pay27 p0 p1 p2 p3) (k0_pay29 p4 p5 p6 p7) (k0_pay33 p0 p1 p2 p3 p4 p5 p6 p7)
  | 6 => k0_pay46 (k0_pay21 p0 p1 p2 p3) (k0_pay25 p4 p5 p6 p7) (k0_pay27 p0 p1 p2 p3) (k0_pay29 p4 p5 p6 p7) (k0_pay33 p0 p1 p2 p3 p4 p5 p6 p7)
  | _ => minimumf (k0_pay21 p0 p1 p2 p3) (k0_pay25 p4 p5 p6 p7)

/-- The eight planes, as the kernel computes them, are in each lane the network's outcome on the lane's eight values. -/
theorem sortedPlanes_at (p : Fin 8 → Plane) (j : ℕ) (i : S256x128.Idx) :
    sortedPlanes (p 0) (p 1) (p 2) (p 3) (p 4) (p 5) (p 6) (p 7) j i = net8 (fun k => p k i) ⟨min j 7, by omega⟩ := by
  have cast (v : Plane) (h : S256x128.ShapeCasts S256x128) : shapeCast S256x128 v h = v :=
    funext fun y => shapeCast_apply _ _ _ _ rfl
  match j with
  | 0 | 1 | 2 | 3 | 4 | 5 | 6 =>
    simp only [sortedPlanes, k0_pay46, k0_pay45, k0_pay44, k0_pay43, k0_pay42, k0_pay41, k0_pay40, k0_pay39, k0_pay38, k0_pay37, k0_pay36,
      k0_pay35, k0_pay34, k0_pay33, k0_pay32, k0_pay31, k0_pay30, k0_pay29, k0_pay28, k0_pay27, k0_pay26, k0_pay25, k0_pay24, k0_pay23, k0_pay22,
      k0_pay21, k0_pay20, k0_pay19, k0_pay18, k0_pay17, k0_pay16, k0_pay15, k0_pay14, k0_pay13, k0_pay12, k0_pay11, k0_pay10, k0_pay9, k0_pay8,
      k0_pay7, k0_pay6, k0_pay5, k0_pay4, k0_pay3, k0_pay2, cast]
    rfl
  | j + 7 =>
    rw [show (⟨min (j + 7) 7, by omega⟩ : Fin 8) = 7 from Fin.ext (Nat.min_eq_right (by omega))]
    simp only [sortedPlanes, k0_pay25, k0_pay21, k0_pay17, k0_pay15, k0_pay13, k0_pay11, k0_pay9, k0_pay8,
      k0_pay7, k0_pay6, k0_pay5, k0_pay4, k0_pay3, k0_pay2, cast]
    rfl

theorem popV_step (Q : ℕ → Plane) (j : ℕ) {h a b : Plane} (e0 : Q 0 = h) (e1 : Q (j + 1) = a) (e2 : Q j = b) :
    popV Q j = select (k0_pay48 h) a b := by subst e0 e1 e2; rfl

/-- Eight columns laid side by side, read at an index. -/
theorem columns_at (a b c d e f g h : FVec Ideal S256x1 .f32) (r : Fin 256) (k : Fin 8) :
    concatenate S256x8 1 ([⟨S256x1, a⟩, ⟨S256x1, b⟩, ⟨S256x1, c⟩, ⟨S256x1, d⟩, ⟨S256x1, e⟩, ⟨S256x1, f⟩, ⟨S256x1, g⟩, ⟨S256x1, h⟩] :
        List ((s : Shape) × (s.Idx → Ideal .f32)))
      concatenates_S256x1_S256x1_S256x1_S256x1_S256x1_S256x1_S256x1_S256x1_S256x8_d1 (ix2 r k) = ![a, b, c, d, e, f, g, h] k (ix2 r 0) :=
  concatenate_ofFn_unit_apply (t := S256x8) (s₁ := S256x1) 1 ![a, b, c, d, e, f, g, h]
    concatenates_S256x1_S256x1_S256x1_S256x1_S256x1_S256x1_S256x1_S256x1_S256x8_d1 rfl rfl (ix2 r k) k rfl (ix2 r 0) (fun b hb => by
      match b with
      | ⟨0, _⟩ => rfl
      | ⟨1, _⟩ => exact absurd rfl hb)

/-- The last four rounds, from the planes left by the first four. -/
theorem lastRounds (t0 t1 t2 t3 : FVec Ideal S256x1 .f32) (Q : ℕ → Plane) (r : Fin 256) (k : Fin 8) :
    (k0_pay76 t0 t1 t2 t3 (Q 0) (Q 1) (Q 2) (Q 3) (k0_pay47 (Q 0)) (k0_pay48 (Q 0)) : FVec Ideal S1x256x8 .f32) (ix3 0 r k)
      = (![t0, t1, t2, t3, k0_pay47 (Q 0), k0_pay47 (popV Q 0), k0_pay47 (popV (popV Q) 0),
            k0_pay47 (popV (popV (popV Q)) 0)] : Fin 8 → FVec Ideal S256x1 .f32) k (ix2 r 0) := by
  unfold k0_pay76
  exact (shapeCast_ab_1ab_apply _ _ 0 r k).trans (columns_at _ _ _ _ _ _ _ _ r k)

/-- The first four rounds, on the sorted planes. -/
theorem firstRounds (p0 p1 p2 p3 p4 p5 p6 p7 : Plane) :
    let P := sortedPlanes p0 p1 p2 p3 p4 p5 p6 p7
    let Q := popV (popV (popV (popV P)))
    (stageOf p0 p1 p2 p3 p4 p5 p6 p7 : FVec Ideal S1x256x8 .f32)
      = k0_pay76 (k0_pay47 (P 0)) (k0_pay47 (popV P 0)) (k0_pay47 (popV (popV P) 0)) (k0_pay47 (popV (popV (popV P)) 0))
          (Q 0) (Q 1) (Q 2) (Q 3) (k0_pay47 (Q 0)) (k0_pay48 (Q 0)) := by
  intro P Q
  let v52 : Plane := k0_pay21 p0 p1 p2 p3
  let v56 : Plane := k0_pay25 p4 p5 p6 p7
  let v58 : Plane := k0_pay27 p0 p1 p2 p3
  let v60 : Plane := k0_pay29 p4 p5 p6 p7
  let v61 : Plane := k0_pay30 p0 p1 p2 p3 p4 p5 p6 p7
  let v62 : Plane := k0_pay31 p0 p1 p2 p3 p4 p5 p6 p7
  let v63 : Plane := k0_pay32 p0 p1 p2 p3 p4 p5 p6 p7
  let v64 : Plane := k0_pay33 p0 p1 p2 p3 p4 p5 p6 p7
  let v65 : Plane := k0_pay34 p0 p1 p2 p3 p4 p5 p6 p7
  have a0 : popV P 0 = k0_pay49 v61 v62 v63 v65 := popV_step P 0 rfl rfl rfl
  have a1 : popV P 1 = k0_pay50 v61 v62 v63 v65 := popV_step P 1 rfl rfl rfl
  have a2 : popV P 2 = k0_pay51 v52 v56 v61 v62 v63 v64 v65 := popV_step P 2 rfl rfl rfl
  have a3 : popV P 3 = k0_pay52 v52 v56 v61 v62 v64 v65 := popV_step P 3 rfl rfl rfl
  have a4 : popV P 4 = k0_pay53 v52 v56 v58 v60 v61 v62 v64 v65 := popV_step P 4 rfl rfl rfl
  have a5 : popV P 5 = k0_pay54 v52 v56 v58 v60 v61 v64 := popV_step P 5 rfl rfl rfl
  have a6 : popV P 6 = select (k0_pay48 v61) (minimumf v52 v56) (k0_pay46 v52 v56 v58 v60 v64) := popV_step P 6 rfl rfl rfl
  have b0 : popV (popV P) 0 = k0_pay57 v61 v62 v63 v65 := popV_step _ 0 a0 a1 a0
  have b1 : popV (popV P) 1 = k0_pay58 v52 v56 v61 v62 v63 v64 v65 := popV_step _ 1 a0 a2 a1
  have b2 : popV (popV P) 2 = k0_pay59 v52 v56 v61 v62 v63 v64 v65 := popV_step _ 2 a0 a3 a2
  have b3 : popV (popV P) 3 = k0_pay60 v52 v56 v58 v60 v61 v62 v63 v64 v65 := popV_step _ 3 a0 a4 a3
  have b4 : popV (popV P) 4 = k0_pay61 v52 v56 v58 v60 v61 v62 v63 v64 v65 := popV_step _ 4 a0 a5 a4
  have b5 := popV_step (popV P) 5 a0 a6 a5
  have c0 : popV (popV (popV P)) 0 = k0_pay64 v52 v56 v61 v62 v63 v64 v65 := popV_step _ 0 b0 b1 b0
  have c1 : popV (popV (popV P)) 1 = k0_pay65 v52 v56 v61 v62 v63 v64 v65 := popV_step _ 1 b0 b2 b1
  have c2 : popV (popV (popV P)) 2 = k0_pay66 v52 v56 v58 v60 v61 v62 v63 v64 v65 := popV_step _ 2 b0 b3 b2
  have c3 : popV (popV (popV P)) 3 = k0_pay67 v52 v56 v58 v60 v61 v62 v63 v64 v65 := popV_step _ 3 b0 b4 b3
  have c4 := popV_step (popV (popV P)) 4 b0 b5 b4
  have d0 : Q 0 = k0_pay70 v52 v56 v61 v62 v63 v64 v65 := popV_step _ 0 c0 c1 c0
  have d1 : Q 1 = k0_pay71 v52 v56 v58 v60 v61 v62 v63 v64 v65 := popV_step _ 1 c0 c2 c1
  have d2 : Q 2 = k0_pay72 v52 v56 v58 v60 v61 v62 v63 v64 v65 := popV_step _ 2 c0 c3 c2
  have d3 : Q 3 = k0_pay73 v52 v56 v58 v60 v61 v62 v63 v64 v65 := popV_step _ 3 c0 c4 c3
  rw [a0, b0, c0, d0, d1, d2, d3]
  rfl

/-- Eight columns made one way from the states of an iteration, listed. -/
theorem iterates_at {α β : Type*} (T : α → β) (f : α → α) (P : α) (k : Fin 8) :
    (![T P, T (f P), T (f (f P)), T (f (f (f P))), T (f (f (f (f P)))), T (f (f (f (f (f P))))), T (f (f (f (f (f (f P)))))),
      T (f (f (f (f (f (f (f P))))))) ] : Fin 8 → β) k = T (f^[k.val] P) := by
  fin_cases k <;> rfl

/-- What a device stores at `(r, k)` is what round `k` of its row emits. -/
theorem stageOf_at (p : Fin 8 → Plane) (r : Fin 256) (k : Fin 8) :
    (stageOf (p 0) (p 1) (p 2) (p 3) (p 4) (p 5) (p 6) (p 7) : FVec Ideal S1x256x8 .f32) (ix3 0 r k)
      = emitted (fun (l : Fin 128) j => net8 (fun k => p k (ix2 r l)) ⟨min j 7, by omega⟩) k := by
  refine (congrFun (firstRounds _ _ _ _ _ _ _ _) (ix3 0 r k)).trans ((lastRounds _ _ _ _ _ r k).trans ?_)
  have e : (fun (l : Fin 128) j => net8 (fun k => p k (ix2 r l)) ⟨min j 7, by omega⟩)
      = cols (sortedPlanes (p 0) (p 1) (p 2) (p 3) (p 4) (p 5) (p 6) (p 7)) r :=
    funext fun l => funext fun j => (sortedPlanes_at p j (ix2 r l)).symm
  rw [e]
  generalize sortedPlanes (p 0) (p 1) (p 2) (p 3) (p 4) (p 5) (p 6) (p 7) = P
  refine (congrFun (iterates_at (fun Q : ℕ → Plane => (k0_pay47 (Q 0) : FVec Ideal S256x1 .f32)) popV P k) (ix2 r 0)).trans ?_
  refine (tops_at _ r 0).trans (congrArg best (funext fun l => ?_))
  exact congrFun (congrFun ((cols_iterate P r k.val).trans (popped_iterate (cols P r) k.val)) l) 0

end Cert.TopK

end
-- ==== Proof.Candidates.lean ====
/-
# The eight candidates of a device's row

Each candidate a device stores is an entry of its row, and every entry of the row that at most seven others exceed is among
the candidates.
-/
module

public import proofs.«01_k».proof.Proof.Stage

@[expose] public section

noncomputable section

namespace Cert.TopK

open Cert.KernelIdeal Cert.KernelIdeal.Gen

open Idealize.ShloMosaic Idealize.ShloMosaic.ValueIdx

/-- Column `128 k + l` of a block. -/
def colAt (k : Fin 8) (l : Fin 128) : Fin 1024 := ⟨128 * k.val + l.val, by have := k.isLt; have := l.isLt; omega⟩

theorem colAt_injective {k k' : Fin 8} {l l' : Fin 128} (h : colAt k l = colAt k' l') : k = k' ∧ l = l' := by
  have := congrArg Fin.val h
  simp only [colAt] at this
  exact ⟨Fin.ext (by omega), Fin.ext (by omega)⟩

theorem colAt_surjective (q : Fin 1024) : ∃ k l, colAt k l = q :=
  ⟨⟨q.val / 128, by have := q.isLt; omega⟩, ⟨q.val % 128, Nat.mod_lt _ (by omega)⟩, Fin.ext (by simp only [colAt]; omega)⟩

theorem plane_at (X : FVec Ideal S256x1024 .f32) (k : Fin 8) (r : Fin 256) (l : Fin 128) :
    plane (F := Ideal) X k (ix2 r l) = X (ix2 r (colAt k l)) := by
  refine congrArg X (funext fun a => Fin.ext ?_)
  match a with
  | ⟨0, _⟩ => show 0 + 1 * r.val = r.val; omega
  | ⟨1, _⟩ => show 128 * k.val + 1 * l.val = 128 * k.val + l.val; omega

/-- A lane's column in one row of a block: its eight values sorted. -/
def lane (g : Fin 1024 → EReal) (l : Fin 128) (j : ℕ) : EReal := net8 (fun k => g (colAt k l)) ⟨min j 7, by omega⟩

theorem lane_antitone (g : Fin 1024 → EReal) (l : Fin 128) : Antitone (lane g l) := fun a b h =>
  net8_antitone _ (show min a 7 ≤ min b 7 by omega)

/-- Candidate `k` of row `r` is what round `k` emits. -/
theorem stage_at (X : FVec Ideal S256x1024 .f32) (r : Fin 256) (k : Fin 8) :
    (stage X : FVec Ideal S1x256x8 .f32) (ix3 0 r k) = emitted (lane fun q => X (ix2 r q)) k := by
  refine (stageOf_at (fun k => plane (F := Ideal) X k) r k).trans ?_
  unfold lane
  simp only [plane_at]

/-- Every candidate is an entry of the row. -/
theorem emitted_lane_mem (g : Fin 1024 → EReal) (k : ℕ) : ∃ q, emitted (lane g) k = g q := by
  obtain ⟨l, j, -, h⟩ := emitted_mem (lane g) k
  obtain ⟨σ, hσ⟩ := net8_perm fun k => g (colAt k l)
  exact ⟨colAt (σ ⟨min j 7, by omega⟩) l, h.trans (congrFun hσ _)⟩

/-- An entry that at most seven entries of the row exceed is a candidate. -/
theorem emitted_lane_of_few (g : Fin 1024 → EReal) (q : Fin 1024) (few : (Finset.univ.filter fun q' => g q < g q').card ≤ 7) :
    ∃ k : Fin 8, emitted (lane g) k = g q := by
  obtain ⟨k₀, l₀, rfl⟩ := colAt_surjective q
  choose σ hσ using fun l => net8_perm fun k => g (colAt k l)
  have at_ (l : Fin 128) (j : Fin 8) : lane g l j = g (colAt (σ l j) l) := by
    have e : (⟨min j.val 7, by omega⟩ : Fin 8) = j := Fin.ext (by show min j.val 7 = j.val; omega)
    unfold lane
    rw [e]
    exact congrFun (hσ l) j
  have e₀ : lane g l₀ ((σ l₀).symm k₀).val = g (colAt k₀ l₀) := by rw [at_, Equiv.apply_symm_apply]
  obtain ⟨k, hk, e⟩ := emitted_of_few (lane g) (lane_antitone g) l₀ ((σ l₀).symm k₀).val 7 (by
    refine le_trans (Finset.card_le_card_of_injOn (fun p : Fin 128 × Fin 8 => colAt (σ p.1 p.2) p.1) ?_ ?_) few
    · intro p hp
      have := (Finset.mem_filter.mp hp).2
      rw [e₀, at_] at this
      exact Finset.mem_filter.mpr ⟨Finset.mem_univ _, this⟩
    · intro p _ p' _ h
      obtain ⟨h1, h2⟩ := colAt_injective h
      obtain ⟨l, j⟩ := p
      obtain ⟨l', j'⟩ := p'
      subst h2
      exact congrArg _ ((σ _).injective h1))
  exact ⟨⟨k, hk⟩, e.trans e₀⟩

end Cert.TopK

end
-- ==== Proof.Merge.lean ====
/-
# Merging the candidates

The eight slots lie side by side, 64 candidates to a row. Eight times the row's largest is emitted and every candidate equal
to it is struck off.
-/
module

public import proofs.«01_k».proof.Proof.Stage

@[expose] public section

noncomputable section

namespace Cert.TopK

open Cert.KernelIdeal Cert.KernelIdeal.Gen

open Idealize.ShloMosaic Idealize.ShloMosaic.ValueIdx

/-- The largest candidate of every row, as a column. -/
def topM (v : FVec Ideal S256x64 .f32) : FVec Ideal S256x1 .f32 :=
  shapeCast S256x1 (multiReduction .maximumf [1] S256 v 0xFF800000#32 reduces_S256x64_S256 (.inl rfl) rfl) shapeCasts_S256_S256x1

/-- The candidates with every row's largest struck off. -/
def struckM (v : FVec Ideal S256x64 .f32) : FVec Ideal S256x64 .f32 :=
  select (cmpf .oeq v (broadcastTo S256x64 (topM v) broadcasts_S256x1_S256x64))
    (broadcast S256x64 (Scalar.ofBits .f32 0xFF800000#32)) v

theorem topM_at (v : FVec Ideal S256x64 .f32) (r : Fin 256) (u : Fin 1) : topM v (ix2 r u) = best fun a : Fin 64 => v (ix2 r a) :=
  (shapeCast_a_a1_apply _ _ r u).trans (rowMax_at (n := 63) _ v _ _ r)

theorem struckM_row (v : FVec Ideal S256x64 .f32) (r : Fin 256) :
    (fun a : Fin 64 => struckM v (ix2 r a)) = struck fun a : Fin 64 => (v (ix2 r a) : EReal) := by
  funext a
  refine (choose_at (n := 64) v _ _ v (ix2 r a)).trans ?_
  rw [column_at (n := 64), topM_at]
  show (if v (ix2 r a) = _ then (FloatOps.ofBits .f32 0xFF800000#32 : Ideal .f32) else _) = _
  rw [least_bits]
  rfl

theorem struckM_iterate (v : FVec Ideal S256x64 .f32) (r : Fin 256) (n : ℕ) :
    (fun a : Fin 64 => struckM^[n] v (ix2 r a)) = struck^[n] fun a : Fin 64 => (v (ix2 r a) : EReal) := by
  induction n with
  | zero => rfl
  | succ n ih => rw [Function.iterate_succ_apply', Function.iterate_succ_apply', ← ih]; exact struckM_row _ r

/-- The last six rounds, from the candidates left by the first two. -/
theorem lastMerge (t0 t1 : FVec Ideal S256x1 .f32) (v : FVec Ideal S256x64 .f32) (r : Fin 256) (i : Fin 8) :
    k0_pay1 t0 t1 v (ix2 r i)
      = (![t0, t1, topM v, topM (struckM v), topM (struckM (struckM v)), topM (struckM (struckM (struckM v))),
          topM (struckM (struckM (struckM (struckM v)))), topM (struckM (struckM (struckM (struckM (struckM v)))))] :
          Fin 8 → FVec Ideal S256x1 .f32) i (ix2 r 0) := by
  unfold k0_pay1
  exact columns_at _ _ _ _ _ _ _ _ r i

/-- The candidates side by side. -/
theorem gathered_at (s : Fin 8 → FVec Ideal S1x256x8 .f32) (r : Fin 256) (a : Fin 64) :
    k0_pay77 (s 0) (s 1) (s 2) (s 3) (s 4) (s 5) (s 6) (s 7) (ix2 r a)
      = s ⟨a.val / 8, by have := a.isLt; omega⟩ (ix3 0 r ⟨a.val % 8, Nat.mod_lt _ (by omega)⟩) := by
  unfold k0_pay77
  refine (concatenate_ofFn_apply (t := S256x64) (s₁ := S256x8) 1
    (fun n : Fin 8 => (shapeCast S256x8 (s n) shapeCasts_S1x256x8_S256x8 : FVec Ideal S256x8 .f32))
    concatenates_S256x8_S256x8_S256x8_S256x8_S256x8_S256x8_S256x8_S256x8_S256x64_d1 rfl 8 rfl (ix2 r a)
    ⟨a.val / 8, by have := a.isLt; omega⟩ rfl (ix2 r ⟨a.val % 8, Nat.mod_lt _ (by omega)⟩) rfl (fun b hb => by
      match b with
      | ⟨0, _⟩ => rfl
      | ⟨1, _⟩ => exact absurd rfl hb)).trans ?_
  exact shapeCast_1ab_ab_apply _ _ _ _

/-- The result at `(r, i)`: the largest of the row's candidates after `i` rounds of striking off. -/
theorem outOf_at (s : Fin 8 → FVec Ideal S1x256x8 .f32) (r : Fin 256) (i : Fin 8) :
    (outOf (s 0) (s 1) (s 2) (s 3) (s 4) (s 5) (s 6) (s 7) : FVec Ideal S256x8 .f32) (ix2 r i)
      = best (struck^[i.val] fun a : Fin 64 =>
          (s ⟨a.val / 8, by have := a.isLt; omega⟩ (ix3 0 r ⟨a.val % 8, Nat.mod_lt _ (by omega)⟩) : EReal)) := by
  have e : (outOf (s 0) (s 1) (s 2) (s 3) (s 4) (s 5) (s 6) (s 7) : FVec Ideal S256x8 .f32)
      = (let C := k0_pay77 (s 0) (s 1) (s 2) (s 3) (s 4) (s 5) (s 6) (s 7)
         k0_pay1 (topM C) (topM (struckM C)) (struckM (struckM C))) := by
    unfold outOf k0_pay81 k0_pay80 k0_pay79 k0_pay78; rfl
  refine (congrFun e (ix2 r i)).trans ((lastMerge _ _ _ r i).trans ?_)
  refine (congrFun (iterates_at topM struckM _ i) (ix2 r 0)).trans ?_
  refine (topM_at _ r 0).trans (congrArg best ?_)
  refine (struckM_iterate _ r i.val).trans ?_
  simp only [gathered_at]

end Cert.TopK

end
-- ==== Proof.Order.lean ====
/-
# The order of a row

The reference sorts the negated row with the positions alongside. Read at an index the sorted positions are a permutation
of the row's positions along which the row's values fall.
-/
module

public import proofs.«01_k».proof.Defs
public import proofs.«01_k».proof.Proof.Gen.On_distinct
public import Idealize.ShloMosaic.PureOps.Ideal
public import Idealize.ShloMosaic.PureOps.Ideal.Laws
public import Idealize.ShloMosaic.Lib.SortFacts
public import Idealize.ShloMosaic.Lib.ValueIdxCore

@[expose] public section

noncomputable section

namespace Cert.TopK

open Idealize.ShloMosaic Idealize.ShloMosaic.ValueIdx

/-- A whole array. -/
abbrev Whole := FVec Ideal ⟨2, ![256, 8192]⟩ .f32

/-- The sort's comparison at the ideal numbers is "less than" on the values. -/
theorem comparator_eq (l r : Ideal .f32 × BitVec 32) :
    (Cert.On_distinct.comparator_f32_i32_d1 (F := Ideal) l r == 1#1) = decide ((l.1 : EReal) < r.1) := by
  have same (v : EReal) : (Scalar.select (FloatOps.cmpf (F := Ideal) (φ := .f32) .une v v) (FloatOps.ofBits .f32 0x7FC00000#32)
      (Scalar.select (FloatOps.cmpf (F := Ideal) (φ := .f32) .oeq v (FloatOps.ofBits .f32 0x00000000#32)) (FloatOps.ofBits .f32 0x00000000#32) v) : Ideal .f32) = v := by
    have e : FloatOps.cmpf (F := Ideal) (φ := .f32) .une v v = 0#1 := by
      show BitVec.ofBool (decide (v ≠ v)) = 0#1
      rw [decide_eq_false (fun h => h rfl)]; rfl
    rw [e]
    show (if BitVec.ofBool (decide (v = _)) = 1#1 then _ else v) = v
    by_cases h : v = (FloatOps.ofBits .f32 0x00000000#32 : Ideal .f32)
    · rw [decide_eq_true h]; exact h.symm
    · rw [decide_eq_false h]; rfl
  unfold Cert.On_distinct.comparator_f32_i32_d1
  simp only [same]
  show (BitVec.ofBool (decide (l.1 < r.1)) == 1#1) = _
  cases decide (l.1 < r.1) <;> rfl

/-- The positions of row `r` in the order of falling values. -/
def order (X : Whole) (r : Fin 256) : Fin 8192 → Fin 8192 :=
  sortedFrom fun k k' => decide ((X (ix2 r k') : EReal) < X (ix2 r k))

/-- The row's values in that order. -/
def ranked (X : Whole) (r : Fin 256) (i : Fin 8192) : EReal := X (ix2 r (order X r i))

theorem order_injective (X : Whole) (r : Fin 256) : Function.Injective (order X r) := sortedFrom_injective _

theorem order_surjective (X : Whole) (r : Fin 256) : Function.Surjective (order X r) := sortedFrom_surjective _

theorem ranked_antitone (X : Whole) (r : Fin 256) : Antitone (ranked X r) := by
  intro i j h
  rcases h.eq_or_lt with rfl | h
  · exact le_rfl
  have := sortedFrom_noInversion (fun k k' => decide ((X (ix2 r k') : EReal) < X (ix2 r k)))
    (fun k k' => decide ((X (ix2 r k') : EReal) < X (ix2 r k)))
    (fun a b h => decide_eq_false (not_lt.mpr (of_decide_eq_true h).le)) (fun _ _ h => h)
    (fun a b c h1 h2 => decide_eq_false (not_lt.mpr ((not_lt.mp (of_decide_eq_false h1)).trans (not_lt.mp (of_decide_eq_false h2))))) i j h
  exact not_lt.mp (of_decide_eq_false this)

/-- A sort of pairs along the columns, its second operand read at an index. -/
theorem sort2_snd_at {a n : ℕ} {α β : Type} (cmp : α × β → α × β → BitVec 1) (x : (⟨2, ![a, n]⟩ : Shape).Idx → α)
    (y : (⟨2, ![a, n]⟩ : Shape).Idx → β) (r : Fin a) (k : Fin n) :
    (Host.sort2 ⟨2, ![a, n]⟩ 1 cmp x y).2 (ix2 r k)
      = y (ix2 r (sortedFrom (fun k₁ k₂ : Fin n => cmp (x (ix2 r k₁), y (ix2 r k₁)) (x (ix2 r k₂), y (ix2 r k₂)) == 1#1) k)) := by
  have along (k' : Fin n) : ((ix2 r k : (⟨2, ![a, n]⟩ : Shape).Idx).along 1 k') = ix2 r k' := by
    funext b
    match b with
    | ⟨0, _⟩ => rfl
    | ⟨1, _⟩ => rfl
  have e : (sortedFrom fun k₁ k₂ : Fin n =>
      cmp (x ((ix2 r k : (⟨2, ![a, n]⟩ : Shape).Idx).along 1 k₁), y ((ix2 r k : (⟨2, ![a, n]⟩ : Shape).Idx).along 1 k₁))
        (x ((ix2 r k : (⟨2, ![a, n]⟩ : Shape).Idx).along 1 k₂), y ((ix2 r k : (⟨2, ![a, n]⟩ : Shape).Idx).along 1 k₂)) == 1#1)
      = sortedFrom fun k₁ k₂ : Fin n => cmp (x (ix2 r k₁), y (ix2 r k₁)) (x (ix2 r k₂), y (ix2 r k₂)) == 1#1 := by
    simp only [along]
  unfold Host.sort2
  rw [dif_pos (show 1 < 2 by omega)]
  exact congrArg y ((along _).trans (congrArg (fun σ : Fin n → Fin n => (ix2 r (σ k) : (⟨2, ![a, n]⟩ : Shape).Idx)) e))

/-- The sorted positions, read at an index. -/
theorem argsort_at (X : Whole) (r : Fin 256) (k : Fin 8192) :
    Cert.On_distinct.fn_argsort (F := Ideal) (Host.negf X) (ix2 r k) = BitVec.ofNat 32 (order X r k).val := by
  unfold Cert.On_distinct.fn_argsort
  refine (sort2_snd_at _ _ _ r k).trans ?_
  simp only [comparator_eq]
  have e : (fun k₁ k₂ : Fin 8192 => decide ((Host.negf X (ix2 r k₁) : EReal) < Host.negf X (ix2 r k₂)))
      = fun k₁ k₂ => decide ((X (ix2 r k₂) : EReal) < X (ix2 r k₁)) := by
    funext k₁ k₂
    rw [decide_eq_decide]
    exact EReal.neg_lt_neg_iff
  exact congrArg (fun R : Fin 8192 → Fin 8192 → Bool => BitVec.ofNat 32 (sortedFrom R k).val) e

end Cert.TopK

end
-- ==== Proof.Firsts.lean ====
/-
# The reference's value

The reference takes the first eight of the sorted positions and reads the row there: entry `(r, j)` of its result is the
row's value of rank `j`.
-/
module

public import proofs.«01_k».proof.Proof.Order
public import Idealize.ShloMosaic.Lib.ReduceAll
public import Idealize.ShloMosaic.Lib.ValueLayout
public import Idealize.ShloMosaic.Lib.ValueLayoutCasts
public import Idealize.ShloMosaic.Lib.Pipeline.Value

@[expose] public section

noncomputable section

namespace Cert.TopK

open Cert.On_distinct Cert.On_distinct.Gen

open Idealize.ShloMosaic Idealize.ShloMosaic.ValueIdx

/-- The gather along the rows, read at an index: the operand at the position given, clamped into the row. -/
theorem gather_at (X : Whole) (idx : IVec S256x8x1 32) (r : Fin 256) (j : Fin 8) :
    Host.gather gather_S256x8192_S256x8x1_S256x8_n_1_0_0_1_2_11 X idx (ix2 r j)
      = X (ix2 r ⟨min (idx (ix3 r j 0)).toInt.toNat 8191, by omega⟩) := by
  unfold Host.gather
  refine congrArg X (funext fun a => Fin.ext ?_)
  have hsi (c : Fin (gather_S256x8192_S256x8x1_S256x8_n_1_0_0_1_2_11).startIndexMap.length) :
      (gather_S256x8192_S256x8x1_S256x8_n_1_0_0_1_2_11).siIdx (ix2 r j) c = ix3 r j 0 := by
    funext b; refine Fin.ext ?_
    match b with
    | ⟨0, _⟩ => rfl
    | ⟨1, _⟩ => rfl
    | ⟨2, _⟩ => exact Nat.lt_one_iff.mp c.isLt
  show (gather_S256x8192_S256x8x1_S256x8_n_1_0_0_1_2_11).start _ idx a + (gather_S256x8192_S256x8x1_S256x8_n_1_0_0_1_2_11).batchCoord _ a
    + (gather_S256x8192_S256x8x1_S256x8_n_1_0_0_1_2_11).offCoord _ a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    refine (dif_pos (show (1 : Fin 2) ∈ [(1 : Fin 2)] from List.mem_singleton.mpr rfl)).trans ?_
    rw [hsi]
    rfl

/-- A word that holds a position of the row. -/
theorem position_toInt (n : Fin 8192) : (BitVec.ofNat 32 n.val).toInt = n.val := by
  have := n.isLt
  rw [BitVec.toInt_eq_toNat_of_lt (by rw [BitVec.toNat_ofNat]; omega), BitVec.toNat_ofNat]; omega

/-- The positions as the gather's start indices: a negative one would count from the row's end. -/
def starts (idx : IVec S256x8 32) : IVec S256x8x1 32 :=
  shapeCast S256x8x1 (select (cmpi .slt idx (broadcastInDim S256x8 ![] Facts.bcast_S_S256x8 (constantI S_ 32 0#32)))
    (addi idx (broadcastInDim S256x8 ![] Facts.bcast_S_S256x8 (constantI S_ 32 8192#32))) idx) Facts.shapeCasts_S256x8_S256x8x1

theorem starts_at (idx : IVec S256x8 32) (r : Fin 256) (j : Fin 8) (u : Fin 1) (n : Fin 8192) (h : idx (ix2 r j) = BitVec.ofNat 32 n.val) :
    starts idx (ix3 r j u) = BitVec.ofNat 32 n.val := by
  unfold starts
  refine (shapeCast_apply _ _ (ix3 r j u) (ix2 r j) (by
    have := u.isLt
    rw [Shape.rowMajor_val_three, Shape.rowMajor_val_two]
    show r.val * 8 + j.val = (r.val * 8 + j.val) * 1 + u.val
    omega)).trans ?_
  show (if BitVec.ofBool ((idx (ix2 r j)).slt 0#32) = 1#1 then _ else idx (ix2 r j)) = _
  rw [h, BitVec.slt_eq_decide, position_toInt, decide_eq_false (by simp)]
  rfl

/-- Taking along the rows at positions that lie in the row reads the operand there. -/
theorem take_at (X : Whole) (p : Fin 256 → Fin 8 → Fin 8192) (idx : IVec S256x8 32)
    (h : ∀ r j, idx (ix2 r j) = BitVec.ofNat 32 (p r j).val) (r : Fin 256) (j : Fin 8) :
    fn_take_along_axis (F := Ideal) X idx (ix2 r j) = X (ix2 r (p r j)) := by
  have inRow : Host.reduce IntOp.andi (andi (cmpi .sge (starts idx) (broadcastInDim S256x8x1 ![] Facts.bcast_S_S256x8x1 (constantI S_ 32 0#32)))
      (cmpi .sle (starts idx) (broadcastInDim S256x8x1 ![0, 1, 2] Facts.bcast_S1x1x1_S256x8x1_0_1_2
        (broadcastInDim S1x1x1 ![2] Facts.bcast_S1_S1x1x1_2 (constantI S1 32 8191#32)))))
      (constantI S_ 1 1#1) Facts.reducesTo_S256x8x1_S256x8_d2 Facts.h_S_ (ix2 r j) = 1#1 := by
    refine Host.reduce_andi_one _ _ _ _ _ rfl fun i => ?_
    obtain ⟨r', j', u, rfl⟩ : ∃ r' j' u, i = ix3 r' j' u := ⟨i 0, i 1, i 2, eq_ix3 i⟩
    show BitVec.ofBool ((0#32).sle (starts idx (ix3 r' j' u))) &&& BitVec.ofBool ((starts idx (ix3 r' j' u)).sle 8191#32) = 1#1
    have := (p r' j').isLt
    rw [starts_at idx r' j' u _ (h r' j'), BitVec.sle_eq_decide, BitVec.sle_eq_decide, position_toInt, decide_eq_true (by simp),
      decide_eq_true (by show ((p r' j').val : Int) ≤ 8191; omega)]
    rfl
  have e : fn_take_along_axis (F := Ideal) X idx (ix2 r j)
      = Host.gather gather_S256x8192_S256x8x1_S256x8_n_1_0_0_1_2_11 X (starts idx) (ix2 r j) := if_pos inRow
  rw [e]
  refine (gather_at X _ r j).trans (congrArg (fun q => X (ix2 r q)) (Fin.ext ?_))
  have := (p r j).isLt
  show min (starts idx (ix3 r j 0)).toInt.toNat 8191 = _
  rw [starts_at idx r j 0 _ (h r j), position_toInt]; omega

/-- Rank `j` of the first eight. -/
abbrev rank (j : Fin 8) : Fin 8192 := ⟨j.val, by have := j.isLt; omega⟩

/-- What the reference computes of the array `X`. -/
def firsts (X : Whole) : FVec Ideal S256x8 .f32 :=
  fn_take_along_axis (F := Ideal) X
    (extractStridedSlice S256x8 ![0, 0] (fn_argsort (F := Ideal) (Host.negf X)) Facts.slices_S256x8192_S256x8_0_0)

/-- Entry `(r, j)` is the value of rank `j` in row `r`. -/
theorem firsts_at (X : Whole) (r : Fin 256) (j : Fin 8) : firsts X (ix2 r j) = ranked X r (rank j) := by
  refine take_at X (fun r j => order X r (rank j)) _ (fun r j => ?_) r j
  refine Eq.trans ?_ (argsort_at X r (rank j))
  refine congrArg (fn_argsort (F := Ideal) (Host.negf X)) (funext fun a => Fin.ext ?_)
  match a with
  | ⟨0, _⟩ => show 0 + r.val = r.val; omega
  | ⟨1, _⟩ => show 0 + j.val = j.val; omega

end Cert.TopK

end
-- ==== Proof.Mask.lean ====
/-
# Where the equality is claimed

The mask holds at `(r, j)` where the reference's entries of row `r` fall strictly down to entry `j`, and where entry `j` is
minus infinity.
-/
module

public import proofs.«01_k».proof.Proof.Firsts
public import proofs.«01_k».proof.Proof.Stage
public import Idealize.ShloMosaic.PureOps.Reduce

@[expose] public section

noncomputable section

namespace Cert.TopK

open Cert.On_distinct Cert.On_distinct.Gen

open Idealize.ShloMosaic Idealize.ShloMosaic.ValueIdx

/-- The mask's first part: the entries fall strictly down to this one. -/
def strict (X : Whole) : IVec S256x8 1 :=
  Host.reduce IntOp.andi
    (ori (broadcastInDim S256x8x7 ![0, 1, 2] Facts.bcast_S256x1x7_S256x8x7_0_1_2
        (broadcastInDim S256x1x7 ![0, 2] Facts.bcast_S256x7_S256x1x7_0_2
          (cmpf .olt (extractStridedSlice S256x7 ![0, 1] (firsts X) Facts.slices_S256x8_S256x7_0_1)
            (extractStridedSlice S256x7 ![0, 0] (firsts X) Facts.slices_S256x8_S256x7_0_0))))
      (cmpi .sge (iotaInDim S256x8x7 32 2) (iotaInDim S256x8x7 32 1)))
    (constantI S_ 1 1#1) Facts.reducesTo_S256x8x7_S256x8_d2 Facts.h_S_

/-- The mask's two parts. -/
theorem mask_cases (X : Whole) (r : Fin 256) (j : Fin 8) (h : fn (F := Ideal) X (ix2 r j) = 1#1) :
    strict X (ix2 r j) = 1#1 ∨ ranked X r (rank j) = ⊥ := by
  have e : IntOp.ori (strict X (ix2 r j))
      (BitVec.ofBool (decide ((firsts X (ix2 r j) : EReal) = (FloatOps.ofBits .f32 0xFF800000#32 : Ideal .f32)))) = 1#1 := h
  rw [least_bits, firsts_at] at e
  by_cases hb : ranked X r (rank j) = ⊥
  · exact Or.inr hb
  · rw [decide_eq_false hb] at e
    exact Or.inl ((BitVec.or_zero (x := _)).symm.trans e)

/-- Where the first part holds, each entry before is greater than the next. -/
theorem mask_step (X : Whole) (r : Fin 256) (j : Fin 8) (h : strict X (ix2 r j) = 1#1) (i : Fin 7) (hi : i.val < j.val) :
    (firsts X (ix2 r ⟨i.val + 1, by omega⟩) : EReal) < firsts X (ix2 r ⟨i.val, by omega⟩) := by
  have hj := j.isLt
  unfold strict at h
  have h1 := Host.reduce_andi_eq_one _ _ _ _ (ix2 r j) h (ix3 r j i) (by
    funext b
    match b with
    | ⟨0, _⟩ => rfl
    | ⟨1, _⟩ => rfl)
  have later : (cmpi .sge (iotaInDim S256x8x7 32 2) (iotaInDim S256x8x7 32 1) : IVec S256x8x7 1) (ix3 r j i) = 0#1 := by
    show BitVec.ofBool ((BitVec.ofNat 32 j.val).sle (BitVec.ofNat 32 i.val)) = 0#1
    rw [BitVec.sle_eq_decide, position_toInt ⟨j.val, by omega⟩, position_toInt ⟨i.val, by omega⟩, decide_eq_false (by
      show ¬ ((j.val : Int) ≤ i.val); omega)]
    rfl
  have a1 (v : FVec Ideal S256x8 .f32) : extractStridedSlice S256x7 ![0, 1] v Facts.slices_S256x8_S256x7_0_1 (ix2 r i) = v (ix2 r ⟨i.val + 1, by omega⟩) := by
    refine congrArg v (funext fun b => Fin.ext ?_)
    match b with
    | ⟨0, _⟩ => show 0 + r.val = r.val; omega
    | ⟨1, _⟩ => show 1 + i.val = i.val + 1; omega
  have a0 (v : FVec Ideal S256x8 .f32) : extractStridedSlice S256x7 ![0, 0] v Facts.slices_S256x8_S256x7_0_0 (ix2 r i) = v (ix2 r ⟨i.val, by omega⟩) := by
    refine congrArg v (funext fun b => Fin.ext ?_)
    match b with
    | ⟨0, _⟩ => show 0 + r.val = r.val; omega
    | ⟨1, _⟩ => show 0 + i.val = i.val; omega
  have falls : (cmpf .olt (extractStridedSlice S256x7 ![0, 1] (firsts X) Facts.slices_S256x8_S256x7_0_1)
      (extractStridedSlice S256x7 ![0, 0] (firsts X) Facts.slices_S256x8_S256x7_0_0) : IVec S256x7 1) (ix2 r i) = 1#1 := by
    have e : IntOp.ori (broadcastInDim S256x8x7 ![0, 1, 2] Facts.bcast_S256x1x7_S256x8x7_0_1_2
        (broadcastInDim S256x1x7 ![0, 2] Facts.bcast_S256x7_S256x1x7_0_2
          (cmpf .olt (extractStridedSlice S256x7 ![0, 1] (firsts X) Facts.slices_S256x8_S256x7_0_1)
            (extractStridedSlice S256x7 ![0, 0] (firsts X) Facts.slices_S256x8_S256x7_0_0))) (ix3 r j i))
        ((cmpi .sge (iotaInDim S256x8x7 32 2) (iotaInDim S256x8x7 32 1) : IVec S256x8x7 1) (ix3 r j i)) = 1#1 := h1
    rw [later, broadcastInDim_apply _ _ _ (ix3 r j i) (ix3 r 0 i) (by
      intro b
      match b with
      | ⟨0, _⟩ => rfl
      | ⟨1, _⟩ => rfl
      | ⟨2, _⟩ => rfl), broadcastInDim_apply _ _ _ (ix3 r 0 i) (ix2 r i) (by
      intro b
      match b with
      | ⟨0, _⟩ => rfl
      | ⟨1, _⟩ => rfl)] at e
    exact (BitVec.or_zero (x := _)).symm.trans e
  have : BitVec.ofBool (decide ((firsts X (ix2 r ⟨i.val + 1, by omega⟩) : EReal) < firsts X (ix2 r ⟨i.val, by omega⟩))) = 1#1 := by
    rw [← a1 (firsts X), ← a0 (firsts X)]; exact falls
  by_contra hn
  rw [decide_eq_false hn] at this
  exact absurd this (by decide)

/-- Where the first part holds at `(r, j)`, the values of ranks `0` to `j` fall strictly. -/
theorem mask_falls (X : Whole) (r : Fin 256) (j : Fin 8) (h : strict X (ix2 r j) = 1#1) (i i' : Fin 8) (hi : i < i') (hi' : i' ≤ j) :
    ranked X r (rank i') < ranked X r (rank i) := by
  have hlt := i'.isLt
  have hi0 : i.val < i'.val := hi
  have hij : i'.val ≤ j.val := hi'
  have step := mask_step X r j h ⟨i'.val - 1, by omega⟩ (by show i'.val - 1 < j.val; omega)
  rw [firsts_at, firsts_at] at step
  have e : (⟨i'.val - 1 + 1, by omega⟩ : Fin 8) = i' := Fin.ext (by show i'.val - 1 + 1 = i'.val; omega)
  rw [show rank ⟨i'.val - 1 + 1, by omega⟩ = rank i' from congrArg rank e] at step
  exact step.trans_le (ranked_antitone X r (by show i.val ≤ i'.val - 1; omega))

end Cert.TopK

end
-- ==== Proof.Rank.lean ====
/-
# The result is the reference's

Where the values of ranks 0 to j fall strictly, each of them is among the candidates of the device whose block holds it, and
every other candidate is smaller: the merge emits the value of rank j in round j. Where the value of rank j is the least, at
most j different values lie above it, and j rounds strike them off.
-/
module

public import proofs.«01_k».proof.Proof.Candidates
public import proofs.«01_k».proof.Proof.Merge
public import proofs.«01_k».proof.Proof.Mask
public import Mathlib.Order.Interval.Finset.Fin

@[expose] public section

noncomputable section

namespace Cert.TopK

open Cert.KernelIdeal Cert.KernelIdeal.Gen

open Idealize.ShloMosaic Idealize.ShloMosaic.ValueIdx

/-- Position `1024 d + q` of a row: position `q` of device `d`'s block. -/
def posAt (d : Dev nD) (q : Fin 1024) : Fin 8192 := ⟨1024 * d.val + q.val, by have : d.val < 8 := d.isLt; have := q.isLt; omega⟩

theorem posAt_injective (d : Dev nD) : Function.Injective (posAt d) := fun q q' h => by
  have := congrArg Fin.val h
  simp only [posAt] at this
  exact Fin.ext (by omega)

theorem posAt_surjective (p : Fin 8192) : ∃ d q, posAt d q = p :=
  ⟨⟨p.val / 1024, by have := p.isLt; show _ < 8; omega⟩, ⟨p.val % 1024, Nat.mod_lt _ (by omega)⟩, Fin.ext (by simp only [posAt]; omega)⟩

/-- At most `i` entries of a block's row exceed the value of rank `i` of the whole row. -/
theorem few_above (X : Whole) (r : Fin 256) (d : Dev nD) (i : Fin 8192) :
    (Finset.univ.filter fun q : Fin 1024 => ranked X r i < (X (ix2 r (posAt d q)) : EReal)).card ≤ i.val := by
  choose t ht using order_surjective X r
  refine le_trans (Finset.card_le_card_of_injOn (t := Finset.Iio i) (fun q => t (posAt d q)) ?_ ?_) (Fin.card_Iio i).le
  · intro q hq
    have h := (Finset.mem_filter.mp hq).2
    refine Finset.mem_coe.mpr (Finset.mem_Iio.mpr (lt_of_not_ge fun hle => ?_))
    have := ranked_antitone X r hle
    unfold ranked at this h
    rw [ht] at this
    exact absurd h (not_lt.mpr this)
  · intro q _ q' _ h
    refine posAt_injective d ?_
    rw [← ht (posAt d q), ← ht (posAt d q')]
    exact congrArg _ h

/-- What the eight slots of device `c` merge to, when the devices' blocks are `B`. -/
def mergedOf (B : Dev nD → FVec Ideal S256x1024 .f32) (c : Dev nD) : FVec Ideal S256x8 .f32 :=
  outOf (F := Ideal) (stage (F := Ideal) (B (xr c 0))) (stage (F := Ideal) (B (xr c 1))) (stage (F := Ideal) (B (xr c 2)))
    (stage (F := Ideal) (B (xr c 3))) (stage (F := Ideal) (B (xr c 4))) (stage (F := Ideal) (B (xr c 5)))
    (stage (F := Ideal) (B (xr c 6))) (stage (F := Ideal) (B (xr c 7)))

/-- Row `r` of the 64 candidates device `c` merges. -/
def cands (B : Dev nD → FVec Ideal S256x1024 .f32) (c : Dev nD) (r : Fin 256) (a : Fin 64) : EReal :=
  stage (F := Ideal) (B (xr c ⟨a.val / 8, by have := a.isLt; omega⟩)) (ix3 0 r ⟨a.val % 8, Nat.mod_lt _ (by omega)⟩)

theorem mergedOf_at (B : Dev nD → FVec Ideal S256x1024 .f32) (c : Dev nD) (r : Fin 256) (j : Fin 8) :
    mergedOf B c (ix2 r j) = best (struck^[j.val] (cands B c r)) := outOf_at (fun k => stage (F := Ideal) (B (xr c k))) r j

section

variable (X : Whole) (B : Dev nD → FVec Ideal S256x1024 .f32) (hB : ∀ d r q, B d (ix2 r q) = X (ix2 r (posAt d q))) (c : Dev nD) (r : Fin 256)

include hB

theorem row_eq (d : Dev nD) : (fun q => (B d (ix2 r q) : EReal)) = fun q => X (ix2 r (posAt d q)) := funext fun q => hB d r q

/-- Every candidate is the value of some rank. -/
theorem cands_rank (a : Fin 64) : ∃ t, cands B c r a = ranked X r t := by
  have ha : a.val / 8 < 8 := by have := a.isLt; omega
  obtain ⟨q, hq⟩ := emitted_lane_mem (fun q => X (ix2 r (posAt (xr c ⟨a.val / 8, ha⟩) q))) (a.val % 8)
  obtain ⟨t, ht⟩ := order_surjective X r (posAt (xr c ⟨a.val / 8, ha⟩) q)
  refine ⟨t, ?_⟩
  unfold cands ranked
  rw [stage_at, row_eq X B hB r, ht]
  exact hq

/-- The value of each of the first eight ranks is a candidate. -/
theorem rank_cands (i : Fin 8) : ∃ a, cands B c r a = ranked X r (rank i) := by
  have hi := i.isLt
  obtain ⟨d, q, hq⟩ := posAt_surjective (order X r (rank i))
  have e : ranked X r (rank i) = X (ix2 r (posAt d q)) := by unfold ranked; rw [hq]
  obtain ⟨k, hk⟩ := emitted_lane_of_few (fun q => X (ix2 r (posAt d q))) q (by
    have := few_above X r d (rank i)
    rw [e] at this
    exact this.trans (by show i.val ≤ 7; omega))
  obtain ⟨s, hs⟩ := xr_surj c d
  have hs' := s.isLt
  have hk' := k.isLt
  refine ⟨⟨8 * s.val + k.val, by omega⟩, ?_⟩
  have e1 : (⟨(8 * s.val + k.val) / 8, by omega⟩ : Fin 8) = s := Fin.ext (by show (8 * s.val + k.val) / 8 = s.val; omega)
  have e2 : (⟨(8 * s.val + k.val) % 8, Nat.mod_lt _ (by omega)⟩ : Fin 8) = k := Fin.ext (by show (8 * s.val + k.val) % 8 = k.val; omega)
  show stage (F := Ideal) (B (xr c ⟨(8 * s.val + k.val) / 8, _⟩)) (ix3 0 r ⟨(8 * s.val + k.val) % 8, _⟩) = _
  rw [e1, e2, hs, stage_at, row_eq X B hB r, hk, ← e]

/-- Where the values of ranks 0 to j fall strictly, the merge emits the value of rank j in round j. -/
theorem merged_of_falls (j : Fin 8) (hV : ∀ i i' : Fin 8, i < i' → i' ≤ j → ranked X r (rank i') < ranked X r (rank i)) :
    mergedOf B c (ix2 r j) = ranked X r (rank j) := by
  have hj := j.isLt
  let V : ℕ → EReal := fun i => ranked X r ⟨min i 8191, by omega⟩
  have hVi (i : Fin 8192) : V i.val = ranked X r i :=
    congrArg (ranked X r) (Fin.ext (by have := i.isLt; show min i.val 8191 = i.val; omega))
  refine (mergedOf_at B c r j).trans (Eq.trans ?_ (hVi (rank j)))
  refine best_struck _ V j.val (fun i i' h h' => ?_) (fun i h => ?_) (fun a => ?_) j.val le_rfl
  · rw [hVi (rank ⟨i, by omega⟩), hVi (rank ⟨i', by omega⟩)]
    exact hV ⟨i, by omega⟩ ⟨i', by omega⟩ h h'
  · obtain ⟨a, ha⟩ := rank_cands X B hB c r ⟨i, by omega⟩
    exact ⟨a, ha.trans (hVi (rank ⟨i, by omega⟩)).symm⟩
  · obtain ⟨t, ht⟩ := cands_rank X B hB c r a
    rw [ht, ← hVi]
    by_cases htj : t.val ≤ j.val
    · exact Or.inl ⟨t.val, htj, rfl⟩
    · have : V t.val ≤ V j.val := by
        rw [hVi, hVi (rank j)]
        exact ranked_antitone X r (by show j.val ≤ t.val; omega)
      rcases this.eq_or_lt with h | h
      · exact Or.inl ⟨j.val, le_rfl, h⟩
      · exact Or.inr h

/-- Where the value of rank j is the least, round j has nothing else left to emit. -/
theorem merged_of_bot (j : Fin 8) (hb : ranked X r (rank j) = ⊥) : mergedOf B c (ix2 r j) = ranked X r (rank j) := by
  rw [mergedOf_at, hb]
  refine best_struck_bot _ (fun i => ranked X r ⟨min i 8191, by omega⟩) j.val fun a => ?_
  obtain ⟨t, ht⟩ := cands_rank X B hB c r a
  rw [ht]
  by_cases htj : t.val < j.val
  · exact Or.inr ⟨t.val, htj, congrArg (ranked X r) (Fin.ext (by have := t.isLt; show t.val = min t.val 8191; omega))⟩
  · exact Or.inl (le_bot_iff.mp ((ranked_antitone X r (show rank j ≤ t by show j.val ≤ t.val; omega)).trans hb.le))

end

end Cert.TopK

end
-- ==== Proof.Equation.lean ====
/-
# The value claim

From any memories whose blocks agree, every device's result is the reference's at every entry the mask marks.
-/
module

public import proofs.«01_k».proof.Proof.Frames
public import proofs.«01_k».proof.Proof.Rank
public import proofs.«01_k».proof.Proof.Gen.ReferenceIdeal.Run
public import Idealize.ShloMosaic.Lib.Layout

@[expose] public section

noncomputable section

namespace Cert.TopK

open Cert.KernelIdeal Cert.KernelIdeal.Gen

open Idealize.ShloMosaic Idealize.ShloMosaic.ValueIdx Idealize.SL.Sem

/-- A device's block, read at an index of the whole array. -/
theorem block_at (X : Whole) (d : Dev nD) (r : Fin 256) (q : Fin 1024) :
    Layout.block ⟨2, ![256, 1024]⟩ ⟨2, ![256, 8192]⟩ 1 8 d X (by decide) (ix2 r q) = X (ix2 r (posAt d q)) := by
  refine congrArg X (funext fun a => Fin.ext ?_)
  match a with
  | ⟨0, _⟩ => rfl
  | ⟨1, _⟩ => show d.val * 1024 + q.val = 1024 * d.val + q.val; omega

/-- The block a device computes on is its argument. -/
theorem xblk_eq (m : (ℓ : Loc nD τ sig) → Buf (Elt Ideal) ℓ) (ρ : Dev nD → PrngReg) (d : Dev nD) :
    (xblk m ρ d : FVec Ideal S256x1024 .f32) = m ((d.tc : Thread nD τ).loc main_arg0) :=
  Memref.read_access_unit_zero (Elt Ideal) main_arg0 (funext fun a => by fin_cases a <;> decide) (fun a => by fin_cases a <;> decide) _

/-- Given blocks of one array, kernel and reference agree at the entries the mask marks, and leave the arguments. -/
theorem algebraic : Cert.algebraic_KernelIdeal_ReferenceIdeal_on_distinct := by
  intro m g m' g' _ hX
  let X : Whole := m' (((0 : Dev Cert.ReferenceIdeal.nD).tc : Thread Cert.ReferenceIdeal.nD Cert.ReferenceIdeal.τ).loc Cert.ReferenceIdeal.main_arg0)
  refine ⟨firsts X, ?_, ?_⟩
  · refine (θ_run Cert.KernelIdeal.defs _ _).mono (fun r h c => ⟨fun i hi => ?_, (h c).2⟩) (run_values m g)
    rw [(h c).1]
    obtain ⟨a, j, rfl⟩ : ∃ a j, i = ix2 a j := ⟨i 0, i 1, eq_ix2 i⟩
    have hB (d : Dev nD) (a : Fin 256) (q : Fin 1024) : (xblk m g d : FVec Ideal S256x1024 .f32) (ix2 a q) = X (ix2 a (posAt d q)) := by
      rw [xblk_eq, hX d]
      exact block_at X d a q
    refine Eq.trans ?_ (firsts_at X a j).symm
    rcases mask_cases X a j hi with h | h
    · exact merged_of_falls X (fun d => xblk m g d) hB c a j (mask_falls X a j h)
    · exact merged_of_bot X (fun d => xblk m g d) hB c a j h
  · exact (θ_run Cert.ReferenceIdeal.defs _ _).mono (fun r h => ⟨fun i _ => congrFun (h 0).1 i, (h 0).2⟩)
      (Cert.ReferenceIdeal.Value.run (F := Ideal) m' g')

end Cert.TopK

end
-- ==== Proof.lean ====
/-
# The proof of the claim

The frames of the program, of its idealized reading and of the reference come from their runs (Proof/Frames.lean,
Proof/RefRun.lean). Nothing is rewritten between the program and its idealized reading. The value claim is
Proof/Equation.lean.
-/
module

public import proofs.«01_k».proof.Defs
public import proofs.«01_k».proof.Proof.Frames
public import proofs.«01_k».proof.Proof.RefRun
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_distinct
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.On_distinct.Gen.facts,
    Cert.TopK.frame_kernel, Cert.TopK.frame_ideal, Cert.TopK.frame_reference, trivial, Cert.TopK.algebraic⟩

end Cert.Proof

end
